-- ==== Defs.lean ====
def Pre_Kernel [hPre_sorted_graphs : Cert.Pre_sorted_graphs.Facts] (m : (ℓ : Loc Cert.Kernel.nD Cert.Kernel.τ Cert.Kernel.sig) → Buf (Elt Bits) ℓ) : Prop :=
  ∀ c : Dev Cert.Kernel.nD,
    (Cert.Pre_sorted_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_sorted_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_sorted_graphs : Cert.Pre_sorted_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sorted_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graphs [hPre_sorted_graphs : Cert.Pre_sorted_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sorted_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_sorted_graphs : Cert.Pre_sorted_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_graphs [hReferenceIdeal : Cert.ReferenceIdeal.Facts] [hPre_sorted_graphs : Cert.Pre_sorted_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_graphs : Cert.Pre_sorted_graphs.Facts),
    quiescent_Kernel (hKernel := hKernel) (hPre_sorted_graphs := hPre_sorted_graphs)
    ∧ quiescent_KernelIdeal (hKernelIdeal := hKernelIdeal) (hPre_sorted_graphs := hPre_sorted_graphs)
    ∧ quiescent_ReferenceIdeal (hReferenceIdeal := hReferenceIdeal)
    ∧ quiescent_ReferenceIdeal_pre_sorted_graphs (hReferenceIdeal := hReferenceIdeal) (hPre_sorted_graphs := hPre_sorted_graphs)
    ∧ preserves_Kernel_KernelIdeal
    ∧ algebraic_KernelIdeal_ReferenceIdeal (hKernelIdeal := hKernelIdeal) (hReferenceIdeal := hReferenceIdeal) (hPre_sorted_graphs := hPre_sorted_graphs)
-- ==== Pre_sorted_graphs.lean ====
abbrev S50000x256 : Shape := ⟨2, ![50000, 256]⟩
abbrev S50000 : Shape := ⟨1, ![50000]⟩
abbrev S512 : Shape := ⟨1, ![512]⟩
abbrev S_ : Shape := ⟨0, ![]⟩
abbrev S49999 : Shape := ⟨1, ![49999]⟩

class Facts : Prop where
  bcast_S_S50000 : S_.BroadcastsInDim S50000 (![] : Fin 0 → Fin S50000.rank)
  slices_S50000_S49999_0 : S50000.Slices ![0] S49999
  slices_S50000_S49999_1 : S50000.Slices ![1] S49999

variable [Facts]

def fn {F : FTy → Type} [FloatOps F] (main_arg0 : FVec F S50000x256 .f32) (main_arg1 : IVec S50000 32) (main_arg2 : FVec F S512 .f32) (main_arg3 : FVec F S512 .f32) : IVec S50000 1 × IVec S49999 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 128#32
  let main_v2 : IVec S50000 32 := broadcastInDim S50000 ![] bcast_S_S50000 main_c_0
  let main_v3 : IVec S50000 1 := cmpi .slt main_arg1 main_v2
  let main_v4 : IVec S50000 1 := andi main_v1 main_v3
  let main_v5 : IVec S49999 32 := (extractStridedSlice S49999 ![0] · slices_S50000_S49999_0) main_arg1
  let main_v6 : IVec S49999 32 := (extractStridedSlice S49999 ![1] · slices_S50000_S49999_1) main_arg1
  let main_v7 : IVec S49999 1 := cmpi .sle main_v5 main_v6
  (main_v4, main_v7)
-- ==== Kernel.lean ====
abbrev S50000x256 : Shape := ⟨2, ![50000, 256]⟩
abbrev S50000 : Shape := ⟨1, ![50000]⟩
abbrev S512 : Shape := ⟨1, ![512]⟩
abbrev S_ : Shape := ⟨0, ![]⟩
abbrev S50016 : Shape := ⟨1, ![50016]⟩
abbrev S32x128x256 : Shape := ⟨3, ![32, 128, 256]⟩
abbrev S32x128x16 : Shape := ⟨3, ![32, 128, 16]⟩
abbrev S1568 : Shape := ⟨1, ![1568]⟩
abbrev S16x256 : Shape := ⟨2, ![16, 256]⟩
abbrev S128x256 : Shape := ⟨2, ![128, 256]⟩
abbrev S128x16 : Shape := ⟨2, ![128, 16]⟩
abbrev S16 : Shape := ⟨1, ![16]⟩
abbrev S1x256 : Shape := ⟨2, ![1, 256]⟩
abbrev S256 : Shape := ⟨1, ![256]⟩
abbrev S1x16 : Shape := ⟨2, ![1, 16]⟩
abbrev S1 : Shape := ⟨1, ![1]⟩
abbrev S1x128x256 : Shape := ⟨3, ![1, 128, 256]⟩
abbrev S1x128x16 : Shape := ⟨3, ![1, 128, 16]⟩
abbrev S1x512 : Shape := ⟨2, ![1, 512]⟩
abbrev S128x512 : Shape := ⟨2, ![128, 512]⟩
abbrev S128x1 : Shape := ⟨2, ![128, 1]⟩

abbrev nBuf : Table → Nat
  | .hbm => 13
  | .local .tc .vmem => 6
  | .local .scVector .vmem => 5
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S512, .f32⟩
  | .hbm, ⟨3, _⟩ => ⟨S512, .f32⟩
  | .hbm, ⟨4, _⟩ => ⟨S_, .i32⟩
  | .hbm, ⟨5, _⟩ => ⟨S_, .i32⟩
  | .hbm, ⟨6, _⟩ => ⟨S50016, .i32⟩
  | .hbm, ⟨7, _⟩ => ⟨S32x128x256, .f32⟩
  | .hbm, ⟨8, _⟩ => ⟨S32x128x256, .f32⟩
  | .hbm, ⟨9, _⟩ => ⟨S32x128x16, .f32⟩
  | .hbm, ⟨10, _⟩ => ⟨S1x512, .f32⟩
  | .hbm, ⟨11, _⟩ => ⟨S1x512, .f32⟩
  | .hbm, ⟨12, _⟩ => ⟨S128x512, .f32⟩
  | .local .tc .vmem, ⟨0, _⟩ => ⟨S32x128x256, .f32⟩
  | .local .tc .vmem, ⟨1, _⟩ => ⟨S32x128x256, .f32⟩
  | .local .tc .vmem, ⟨2, _⟩ => ⟨S32x128x16, .f32⟩
  | .local .tc .vmem, ⟨3, _⟩ => ⟨S1x512, .f32⟩
  | .local .tc .vmem, ⟨4, _⟩ => ⟨S1x512, .f32⟩
  | .local .tc .vmem, ⟨5, _⟩ => ⟨S128x512, .f32⟩
  | .local .scVector .vmem, ⟨0, _⟩ => ⟨S1568, .i32⟩
  | .local .scVector .vmem, ⟨1, _⟩ => ⟨S16x256, .f32⟩
  | .local .scVector .vmem, ⟨2, _⟩ => ⟨S128x256, .f32⟩
  | .local .scVector .vmem, ⟨3, _⟩ => ⟨S128x256, .f32⟩
  | .local .scVector .vmem, ⟨4, _⟩ => ⟨S128x16, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg0_scv : Ref sig .scVector := ⟨.hbm, 0, rfl⟩
abbrev main_v0_scv : Ref sig .scVector := ⟨.hbm, 6, rfl⟩
abbrev main_v1_0_scv : Ref sig .scVector := ⟨.hbm, 7, rfl⟩
abbrev main_v1_1_scv : Ref sig .scVector := ⟨.hbm, 8, rfl⟩
abbrev main_v1_2_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c97_i32 : BitVec 32 := 97#32
  let v2 : BitVec 32 := Scalar.muli v1 c97_i32
  let c21_i32 : BitVec 32 := 21#32
  let v3 : BitVec 32 := Scalar.minsi v1 c21_i32
  let v4 : BitVec 32 := Scalar.addi v2 v3
  let c16_i32_2 : BitVec 32 := 16#32
  let v8 : BitVec 32 := Scalar.muli v4 c16_i32_2
  ![v8.toNat]
@[reducible] def k0_t1_loop : Scf.Loop 32 :=
  let c0_i32_6 : BitVec 32 := 0#32
  let c128_i32 : BitVec 32 := 128#32
  let v12 : BitVec 32 := Scalar.addi c0_i32_6 c128_i32
  let c1_i32_7 : BitVec 32 := 1#32
  ⟨c0_i32_6, v12, c1_i32_7⟩
def k0_off2 (k0_t1 : Fin k0_t1_loop.trips) : Fin 2 → Nat :=
  let c0_i32_6 : BitVec 32 := 0#32
  let c1_i32_7 : BitVec 32 := 1#32
  let arg12 : BitVec 32 := Scf.iv c0_i32_6 c1_i32_7 k0_t1
  let c0_i32_64 : BitVec 32 := 0#32
  ![arg12.toNat, 0]
def k0_off3 (k0_t1 : Fin k0_t1_loop.trips) : Fin 2 → Nat :=
  let c0_i32_6 : BitVec 32 := 0#32
  let c1_i32_7 : BitVec 32 := 1#32
  let arg12 : BitVec 32 := Scf.iv c0_i32_6 c1_i32_7 k0_t1
  let c0_i32_128 : BitVec 32 := 0#32
  ![arg12.toNat, 0]
@[reducible] def k0_t2_loop (i : grid0.Coords) : Scf.Loop 32 :=
  let c0_i32_9 : BitVec 32 := 0#32
  let c97_i32_1 : BitVec 32 := 97#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c21_i32_0 : BitVec 32 := 21#32
  let v5 : BitVec 1 := Scalar.cmpi .slt v1 c21_i32_0
  let c1_i32 : BitVec 32 := 1#32
  let c0_i32 : BitVec 32 := 0#32
  let v6 : BitVec 32 := Scalar.select v5 c1_i32 c0_i32
  let v7 : BitVec 32 := Scalar.addi c97_i32_1 v6
  let v13 : BitVec 32 := Scalar.subi v7 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_11 : BitVec 32 := 1#32
  ⟨c0_i32_9, v17, c1_i32_11⟩
def k0_off4 (i : grid0.Coords) (k0_t2 : Fin (k0_t2_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c97_i32 : BitVec 32 := 97#32
  let v2 : BitVec 32 := Scalar.muli v1 c97_i32
  let c21_i32 : BitVec 32 := 21#32
  let v3 : BitVec 32 := Scalar.minsi v1 c21_i32
  let v4 : BitVec 32 := Scalar.addi v2 v3
  let c0_i32_9 : BitVec 32 := 0#32
  let c1_i32_11 : BitVec 32 := 1#32
  let arg12 : BitVec 32 := Scf.iv c0_i32_9 c1_i32_11 k0_t2
  let v186 : BitVec 32 := Scalar.addi v4 arg12
  let c16_i32_64 : BitVec 32 := 16#32
  let v187 : BitVec 32 := Scalar.muli v186 c16_i32_64
  let c0_i32_612_r1 : BitVec 32 := 0#32
  ![v187.toNat, 0]
def k0_off5 (i : grid0.Coords) (k0_t2 : Fin (k0_t2_loop i).trips) : Fin 1 → Nat :=
  let c0_i32_9 : BitVec 32 := 0#32
  let c1_i32_11 : BitVec 32 := 1#32
  let arg12 : BitVec 32 := Scf.iv c0_i32_9 c1_i32_11 k0_t2
  let c16_i32_65 : BitVec 32 := 16#32
  let v188 : BitVec 32 := Scalar.muli arg12 c16_i32_65
  let v189 : Index := Scalar.indexCast v188
  ![v189.toNat]
def k0_off6 (arg13 : BitVec 32) : Fin 2 → Nat :=
  let c0_i32_66 : BitVec 32 := 0#32
  let v195 : BitVec 32 := Scalar.maxsi arg13 c0_i32_66
  let c0_i32_612 : BitVec 32 := 0#32
  ![v195.toNat, 0]
def k0_cond1 (arg13 : BitVec 32) (v193 : BitVec 32) : BitVec 1 :=
  let v194 : BitVec 1 := Scalar.cmpi .ne v193 arg13
  let v196 : BitVec 32 := Scalar.extui v194
  let c0_i32_67 : BitVec 32 := 0#32
  let v197 : BitVec 1 := Scalar.cmpi .ne v196 c0_i32_67
  v197

def k0_off7 (arg13 : BitVec 32) : Fin 2 → Nat :=
  let c0_i32_66 : BitVec 32 := 0#32
  let v195 : BitVec 32 := Scalar.maxsi arg13 c0_i32_66
  let c0_i32_676 : BitVec 32 := 0#32
  ![v195.toNat, 0]

def k0_chk1 (arg13 : BitVec 32) (v193 : BitVec 32) : Prop :=
  (∀ (k0_h1 : k0_cond1 arg13 v193 = 1#1), ∀ a, (k0_off6 arg13) a + S1x256.size a ≤ S128x256.size a) ∧
  (∀ (k0_h1 : k0_cond1 arg13 v193 = 1#1), ∀ a, (k0_off7 arg13) a + S1x16.size a ≤ S128x16.size a)
theorem k0_off6_inb : ∀ (arg13 : BitVec 32) (v193 : BitVec 32) (k0_hw1 : k0_chk1 arg13 v193), ∀ (k0_h1 : k0_cond1 arg13 v193 = 1#1), ∀ a, (k0_off6 arg13) a + S1x256.size a ≤ S128x256.size a := fun arg13 v193 k0_hw1 k0_h1 => k0_hw1.1 k0_h1
theorem k0_off7_inb : ∀ (arg13 : BitVec 32) (v193 : BitVec 32) (k0_hw1 : k0_chk1 arg13 v193), ∀ (k0_h1 : k0_cond1 arg13 v193 = 1#1), ∀ a, (k0_off7 arg13) a + S1x16.size a ≤ S128x16.size a := fun arg13 v193 k0_hw1 k0_h1 => k0_hw1.2 k0_h1

def k0_off8 (v193 : BitVec 32) : Fin 2 → Nat :=
  let c0_i32_101 : BitVec 32 := 0#32
  let v316 : BitVec 32 := Scalar.maxsi v193 c0_i32_101
  let c0_i32_612 : BitVec 32 := 0#32
  ![v316.toNat, 0]
def k0_cond2 (v193 : BitVec 32) (v314 : BitVec 32) : BitVec 1 :=
  let v315 : BitVec 1 := Scalar.cmpi .ne v314 v193
  let v317 : BitVec 32 := Scalar.extui v315
  let c0_i32_102 : BitVec 32 := 0#32
  let v318 : BitVec 1 := Scalar.cmpi .ne v317 c0_i32_102
  v318

def k0_off9 (v193 : BitVec 32) : Fin 2 → Nat :=
  let c0_i32_101 : BitVec 32 := 0#32
  let v316 : BitVec 32 := Scalar.maxsi v193 c0_i32_101
  let c0_i32_676 : BitVec 32 := 0#32
  ![v316.toNat, 0]

def k0_chk2 (v193 : BitVec 32) (v314 : BitVec 32) : Prop :=
  (∀ (k0_h2 : k0_cond2 v193 v314 = 1#1), ∀ a, (k0_off8 v193) a + S1x256.size a ≤ S128x256.size a) ∧
  (∀ (k0_h2 : k0_cond2 v193 v314 = 1#1), ∀ a, (k0_off9 v193) a + S1x16.size a ≤ S128x16.size a)
theorem k0_off8_inb : ∀ (v193 : BitVec 32) (v314 : BitVec 32) (k0_hw2 : k0_chk2 v193 v314), ∀ (k0_h2 : k0_cond2 v193 v314 = 1#1), ∀ a, (k0_off8 v193) a + S1x256.size a ≤ S128x256.size a := fun v193 v314 k0_hw2 k0_h2 => k0_hw2.1 k0_h2
theorem k0_off9_inb : ∀ (v193 : BitVec 32) (v314 : BitVec 32) (k0_hw2 : k0_chk2 v193 v314), ∀ (k0_h2 : k0_cond2 v193 v314 = 1#1), ∀ a, (k0_off9 v193) a + S1x16.size a ≤ S128x16.size a := fun v193 v314 k0_hw2 k0_h2 => k0_hw2.2 k0_h2

def k0_off10 (v314 : BitVec 32) : Fin 2 → Nat :=
  let c0_i32_136 : BitVec 32 := 0#32
  let v437 : BitVec 32 := Scalar.maxsi v314 c0_i32_136
  let c0_i32_612 : BitVec 32 := 0#32
  ![v437.toNat, 0]
def k0_cond3 (v314 : BitVec 32) (v435 : BitVec 32) : BitVec 1 :=
  let v436 : BitVec 1 := Scalar.cmpi .ne v435 v314
  let v438 : BitVec 32 := Scalar.extui v436
  let c0_i32_137 : BitVec 32 := 0#32
  let v439 : BitVec 1 := Scalar.cmpi .ne v438 c0_i32_137
  v439

def k0_off11 (v314 : BitVec 32) : Fin 2 → Nat :=
  let c0_i32_136 : BitVec 32 := 0#32
  let v437 : BitVec 32 := Scalar.maxsi v314 c0_i32_136
  let c0_i32_676 : BitVec 32 := 0#32
  ![v437.toNat, 0]

def k0_chk3 (v314 : BitVec 32) (v435 : BitVec 32) : Prop :=
  (∀ (k0_h3 : k0_cond3 v314 v435 = 1#1), ∀ a, (k0_off10 v314) a + S1x256.size a ≤ S128x256.size a) ∧
  (∀ (k0_h3 : k0_cond3 v314 v435 = 1#1), ∀ a, (k0_off11 v314) a + S1x16.size a ≤ S128x16.size a)
theorem k0_off10_inb : ∀ (v314 : BitVec 32) (v435 : BitVec 32) (k0_hw3 : k0_chk3 v314 v435), ∀ (k0_h3 : k0_cond3 v314 v435 = 1#1), ∀ a, (k0_off10 v314) a + S1x256.size a ≤ S128x256.size a := fun v314 v435 k0_hw3 k0_h3 => k0_hw3.1 k0_h3
theorem k0_off11_inb : ∀ (v314 : BitVec 32) (v435 : BitVec 32) (k0_hw3 : k0_chk3 v314 v435), ∀ (k0_h3 : k0_cond3 v314 v435 = 1#1), ∀ a, (k0_off11 v314) a + S1x16.size a ≤ S128x16.size a := fun v314 v435 k0_hw3 k0_h3 => k0_hw3.2 k0_h3

def k0_off12 (v435 : BitVec 32) : Fin 2 → Nat :=
  let c0_i32_170 : BitVec 32 := 0#32
  let v558 : BitVec 32 := Scalar.maxsi v435 c0_i32_170
  let c0_i32_612 : BitVec 32 := 0#32
  ![v558.toNat, 0]
def k0_cond4 (v435 : BitVec 32) (v556 : BitVec 32) : BitVec 1 :=
  let v557 : BitVec 1 := Scalar.cmpi .ne v556 v435
  let v559 : BitVec 32 := Scalar.extui v557
  let c0_i32_171 : BitVec 32 := 0#32
  let v560 : BitVec 1 := Scalar.cmpi .ne v559 c0_i32_171
  v560

def k0_off13 (v435 : BitVec 32) : Fin 2 → Nat :=
  let c0_i32_170 : BitVec 32 := 0#32
  let v558 : BitVec 32 := Scalar.maxsi v435 c0_i32_170
  let c0_i32_676 : BitVec 32 := 0#32
  ![v558.toNat, 0]

def k0_chk4 (v435 : BitVec 32) (v556 : BitVec 32) : Prop :=
  (∀ (k0_h4 : k0_cond4 v435 v556 = 1#1), ∀ a, (k0_off12 v435) a + S1x256.size a ≤ S128x256.size a) ∧
  (∀ (k0_h4 : k0_cond4 v435 v556 = 1#1), ∀ a, (k0_off13 v435) a + S1x16.size a ≤ S128x16.size a)
theorem k0_off12_inb : ∀ (v435 : BitVec 32) (v556 : BitVec 32) (k0_hw4 : k0_chk4 v435 v556), ∀ (k0_h4 : k0_cond4 v435 v556 = 1#1), ∀ a, (k0_off12 v435) a + S1x256.size a ≤ S128x256.size a := fun v435 v556 k0_hw4 k0_h4 => k0_hw4.1 k0_h4
theorem k0_off13_inb : ∀ (v435 : BitVec 32) (v556 : BitVec 32) (k0_hw4 : k0_chk4 v435 v556), ∀ (k0_h4 : k0_cond4 v435 v556 = 1#1), ∀ a, (k0_off13 v435) a + S1x16.size a ≤ S128x16.size a := fun v435 v556 k0_hw4 k0_h4 => k0_hw4.2 k0_h4

def k0_off14 (v556 : BitVec 32) : Fin 2 → Nat :=
  let c0_i32_204 : BitVec 32 := 0#32
  let v679 : BitVec 32 := Scalar.maxsi v556 c0_i32_204
  let c0_i32_612 : BitVec 32 := 0#32
  ![v679.toNat, 0]
def k0_cond5 (v556 : BitVec 32) (v677 : BitVec 32) : BitVec 1 :=
  let v678 : BitVec 1 := Scalar.cmpi .ne v677 v556
  let v680 : BitVec 32 := Scalar.extui v678
  let c0_i32_205 : BitVec 32 := 0#32
  let v681 : BitVec 1 := Scalar.cmpi .ne v680 c0_i32_205
  v681

def k0_off15 (v556 : BitVec 32) : Fin 2 → Nat :=
  let c0_i32_204 : BitVec 32 := 0#32
  let v679 : BitVec 32 := Scalar.maxsi v556 c0_i32_204
  let c0_i32_676 : BitVec 32 := 0#32
  ![v679.toNat, 0]

def k0_chk5 (v556 : BitVec 32) (v677 : BitVec 32) : Prop :=
  (∀ (k0_h5 : k0_cond5 v556 v677 = 1#1), ∀ a, (k0_off14 v556) a + S1x256.size a ≤ S128x256.size a) ∧
  (∀ (k0_h5 : k0_cond5 v556 v677 = 1#1), ∀ a, (k0_off15 v556) a + S1x16.size a ≤ S128x16.size a)
theorem k0_off14_inb : ∀ (v556 : BitVec 32) (v677 : BitVec 32) (k0_hw5 : k0_chk5 v556 v677), ∀ (k0_h5 : k0_cond5 v556 v677 = 1#1), ∀ a, (k0_off14 v556) a + S1x256.size a ≤ S128x256.size a := fun v556 v677 k0_hw5 k0_h5 => k0_hw5.1 k0_h5
theorem k0_off15_inb : ∀ (v556 : BitVec 32) (v677 : BitVec 32) (k0_hw5 : k0_chk5 v556 v677), ∀ (k0_h5 : k0_cond5 v556 v677 = 1#1), ∀ a, (k0_off15 v556) a + S1x16.size a ≤ S128x16.size a := fun v556 v677 k0_hw5 k0_h5 => k0_hw5.2 k0_h5

def k0_off16 (v677 : BitVec 32) : Fin 2 → Nat :=
  let c0_i32_238 : BitVec 32 := 0#32
  let v800 : BitVec 32 := Scalar.maxsi v677 c0_i32_238
  let c0_i32_612 : BitVec 32 := 0#32
  ![v800.toNat, 0]
def k0_cond6 (v677 : BitVec 32) (v798 : BitVec 32) : BitVec 1 :=
  let v799 : BitVec 1 := Scalar.cmpi .ne v798 v677
  let v801 : BitVec 32 := Scalar.extui v799
  let c0_i32_239 : BitVec 32 := 0#32
  let v802 : BitVec 1 := Scalar.cmpi .ne v801 c0_i32_239
  v802

def k0_off17 (v677 : BitVec 32) : Fin 2 → Nat :=
  let c0_i32_238 : BitVec 32 := 0#32
  let v800 : BitVec 32 := Scalar.maxsi v677 c0_i32_238
  let c0_i32_676 : BitVec 32 := 0#32
  ![v800.toNat, 0]

def k0_chk6 (v677 : BitVec 32) (v798 : BitVec 32) : Prop :=
  (∀ (k0_h6 : k0_cond6 v677 v798 = 1#1), ∀ a, (k0_off16 v677) a + S1x256.size a ≤ S128x256.size a) ∧
  (∀ (k0_h6 : k0_cond6 v677 v798 = 1#1), ∀ a, (k0_off17 v677) a + S1x16.size a ≤ S128x16.size a)
theorem k0_off16_inb : ∀ (v677 : BitVec 32) (v798 : BitVec 32) (k0_hw6 : k0_chk6 v677 v798), ∀ (k0_h6 : k0_cond6 v677 v798 = 1#1), ∀ a, (k0_off16 v677) a + S1x256.size a ≤ S128x256.size a := fun v677 v798 k0_hw6 k0_h6 => k0_hw6.1 k0_h6
theorem k0_off17_inb : ∀ (v677 : BitVec 32) (v798 : BitVec 32) (k0_hw6 : k0_chk6 v677 v798), ∀ (k0_h6 : k0_cond6 v677 v798 = 1#1), ∀ a, (k0_off17 v677) a + S1x16.size a ≤ S128x16.size a := fun v677 v798 k0_hw6 k0_h6 => k0_hw6.2 k0_h6

def k0_off18 (v798 : BitVec 32) : Fin 2 → Nat :=
  let c0_i32_272 : BitVec 32 := 0#32
  let v921 : BitVec 32 := Scalar.maxsi v798 c0_i32_272
  let c0_i32_612 : BitVec 32 := 0#32
  ![v921.toNat, 0]
def k0_cond7 (v798 : BitVec 32) (v919 : BitVec 32) : BitVec 1 :=
  let v920 : BitVec 1 := Scalar.cmpi .ne v919 v798
  let v922 : BitVec 32 := Scalar.extui v920
  let c0_i32_273 : BitVec 32 := 0#32
  let v923 : BitVec 1 := Scalar.cmpi .ne v922 c0_i32_273
  v923

def k0_off19 (v798 : BitVec 32) : Fin 2 → Nat :=
  let c0_i32_272 : BitVec 32 := 0#32
  let v921 : BitVec 32 := Scalar.maxsi v798 c0_i32_272
  let c0_i32_676 : BitVec 32 := 0#32
  ![v921.toNat, 0]

def k0_chk7 (v798 : BitVec 32) (v919 : BitVec 32) : Prop :=
  (∀ (k0_h7 : k0_cond7 v798 v919 = 1#1), ∀ a, (k0_off18 v798) a + S1x256.size a ≤ S128x256.size a) ∧
  (∀ (k0_h7 : k0_cond7 v798 v919 = 1#1), ∀ a, (k0_off19 v798) a + S1x16.size a ≤ S128x16.size a)
theorem k0_off18_inb : ∀ (v798 : BitVec 32) (v919 : BitVec 32) (k0_hw7 : k0_chk7 v798 v919), ∀ (k0_h7 : k0_cond7 v798 v919 = 1#1), ∀ a, (k0_off18 v798) a + S1x256.size a ≤ S128x256.size a := fun v798 v919 k0_hw7 k0_h7 => k0_hw7.1 k0_h7
theorem k0_off19_inb : ∀ (v798 : BitVec 32) (v919 : BitVec 32) (k0_hw7 : k0_chk7 v798 v919), ∀ (k0_h7 : k0_cond7 v798 v919 = 1#1), ∀ a, (k0_off19 v798) a + S1x16.size a ≤ S128x16.size a := fun v798 v919 k0_hw7 k0_h7 => k0_hw7.2 k0_h7

def k0_off20 (v919 : BitVec 32) : Fin 2 → Nat :=
  let c0_i32_306 : BitVec 32 := 0#32
  let v1042 : BitVec 32 := Scalar.maxsi v919 c0_i32_306
  let c0_i32_612 : BitVec 32 := 0#32
  ![v1042.toNat, 0]
def k0_cond8 (v919 : BitVec 32) (v1040 : BitVec 32) : BitVec 1 :=
  let v1041 : BitVec 1 := Scalar.cmpi .ne v1040 v919
  let v1043 : BitVec 32 := Scalar.extui v1041
  let c0_i32_307 : BitVec 32 := 0#32
  let v1044 : BitVec 1 := Scalar.cmpi .ne v1043 c0_i32_307
  v1044

def k0_off21 (v919 : BitVec 32) : Fin 2 → Nat :=
  let c0_i32_306 : BitVec 32 := 0#32
  let v1042 : BitVec 32 := Scalar.maxsi v919 c0_i32_306
  let c0_i32_676 : BitVec 32 := 0#32
  ![v1042.toNat, 0]

def k0_chk8 (v919 : BitVec 32) (v1040 : BitVec 32) : Prop :=
  (∀ (k0_h8 : k0_cond8 v919 v1040 = 1#1), ∀ a, (k0_off20 v919) a + S1x256.size a ≤ S128x256.size a) ∧
  (∀ (k0_h8 : k0_cond8 v919 v1040 = 1#1), ∀ a, (k0_off21 v919) a + S1x16.size a ≤ S128x16.size a)
theorem k0_off20_inb : ∀ (v919 : BitVec 32) (v1040 : BitVec 32) (k0_hw8 : k0_chk8 v919 v1040), ∀ (k0_h8 : k0_cond8 v919 v1040 = 1#1), ∀ a, (k0_off20 v919) a + S1x256.size a ≤ S128x256.size a := fun v919 v1040 k0_hw8 k0_h8 => k0_hw8.1 k0_h8
theorem k0_off21_inb : ∀ (v919 : BitVec 32) (v1040 : BitVec 32) (k0_hw8 : k0_chk8 v919 v1040), ∀ (k0_h8 : k0_cond8 v919 v1040 = 1#1), ∀ a, (k0_off21 v919) a + S1x16.size a ≤ S128x16.size a := fun v919 v1040 k0_hw8 k0_h8 => k0_hw8.2 k0_h8

def k0_off22 (v1040 : BitVec 32) : Fin 2 → Nat :=
  let c0_i32_340 : BitVec 32 := 0#32
  let v1163 : BitVec 32 := Scalar.maxsi v1040 c0_i32_340
  let c0_i32_612 : BitVec 32 := 0#32
  ![v1163.toNat, 0]
def k0_cond9 (v1040 : BitVec 32) (v1161 : BitVec 32) : BitVec 1 :=
  let v1162 : BitVec 1 := Scalar.cmpi .ne v1161 v1040
  let v1164 : BitVec 32 := Scalar.extui v1162
  let c0_i32_341 : BitVec 32 := 0#32
  let v1165 : BitVec 1 := Scalar.cmpi .ne v1164 c0_i32_341
  v1165

def k0_off23 (v1040 : BitVec 32) : Fin 2 → Nat :=
  let c0_i32_340 : BitVec 32 := 0#32
  let v1163 : BitVec 32 := Scalar.maxsi v1040 c0_i32_340
  let c0_i32_676 : BitVec 32 := 0#32
  ![v1163.toNat, 0]

def k0_chk9 (v1040 : BitVec 32) (v1161 : BitVec 32) : Prop :=
  (∀ (k0_h9 : k0_cond9 v1040 v1161 = 1#1), ∀ a, (k0_off22 v1040) a + S1x256.size a ≤ S128x256.size a) ∧
  (∀ (k0_h9 : k0_cond9 v1040 v1161 = 1#1), ∀ a, (k0_off23 v1040) a + S1x16.size a ≤ S128x16.size a)
theorem k0_off22_inb : ∀ (v1040 : BitVec 32) (v1161 : BitVec 32) (k0_hw9 : k0_chk9 v1040 v1161), ∀ (k0_h9 : k0_cond9 v1040 v1161 = 1#1), ∀ a, (k0_off22 v1040) a + S1x256.size a ≤ S128x256.size a := fun v1040 v1161 k0_hw9 k0_h9 => k0_hw9.1 k0_h9
theorem k0_off23_inb : ∀ (v1040 : BitVec 32) (v1161 : BitVec 32) (k0_hw9 : k0_chk9 v1040 v1161), ∀ (k0_h9 : k0_cond9 v1040 v1161 = 1#1), ∀ a, (k0_off23 v1040) a + S1x16.size a ≤ S128x16.size a := fun v1040 v1161 k0_hw9 k0_h9 => k0_hw9.2 k0_h9

def k0_off24 (v1161 : BitVec 32) : Fin 2 → Nat :=
  let c0_i32_374 : BitVec 32 := 0#32
  let v1284 : BitVec 32 := Scalar.maxsi v1161 c0_i32_374
  let c0_i32_612 : BitVec 32 := 0#32
  ![v1284.toNat, 0]
def k0_cond10 (v1161 : BitVec 32) (v1282 : BitVec 32) : BitVec 1 :=
  let v1283 : BitVec 1 := Scalar.cmpi .ne v1282 v1161
  let v1285 : BitVec 32 := Scalar.extui v1283
  let c0_i32_375 : BitVec 32 := 0#32
  let v1286 : BitVec 1 := Scalar.cmpi .ne v1285 c0_i32_375
  v1286

def k0_off25 (v1161 : BitVec 32) : Fin 2 → Nat :=
  let c0_i32_374 : BitVec 32 := 0#32
  let v1284 : BitVec 32 := Scalar.maxsi v1161 c0_i32_374
  let c0_i32_676 : BitVec 32 := 0#32
  ![v1284.toNat, 0]

def k0_chk10 (v1161 : BitVec 32) (v1282 : BitVec 32) : Prop :=
  (∀ (k0_h10 : k0_cond10 v1161 v1282 = 1#1), ∀ a, (k0_off24 v1161) a + S1x256.size a ≤ S128x256.size a) ∧
  (∀ (k0_h10 : k0_cond10 v1161 v1282 = 1#1), ∀ a, (k0_off25 v1161) a + S1x16.size a ≤ S128x16.size a)
theorem k0_off24_inb : ∀ (v1161 : BitVec 32) (v1282 : BitVec 32) (k0_hw10 : k0_chk10 v1161 v1282), ∀ (k0_h10 : k0_cond10 v1161 v1282 = 1#1), ∀ a, (k0_off24 v1161) a + S1x256.size a ≤ S128x256.size a := fun v1161 v1282 k0_hw10 k0_h10 => k0_hw10.1 k0_h10
theorem k0_off25_inb : ∀ (v1161 : BitVec 32) (v1282 : BitVec 32) (k0_hw10 : k0_chk10 v1161 v1282), ∀ (k0_h10 : k0_cond10 v1161 v1282 = 1#1), ∀ a, (k0_off25 v1161) a + S1x16.size a ≤ S128x16.size a := fun v1161 v1282 k0_hw10 k0_h10 => k0_hw10.2 k0_h10

def k0_off26 (v1282 : BitVec 32) : Fin 2 → Nat :=
  let c0_i32_408 : BitVec 32 := 0#32
  let v1405 : BitVec 32 := Scalar.maxsi v1282 c0_i32_408
  let c0_i32_612 : BitVec 32 := 0#32
  ![v1405.toNat, 0]
def k0_cond11 (v1282 : BitVec 32) (v1403 : BitVec 32) : BitVec 1 :=
  let v1404 : BitVec 1 := Scalar.cmpi .ne v1403 v1282
  let v1406 : BitVec 32 := Scalar.extui v1404
  let c0_i32_409 : BitVec 32 := 0#32
  let v1407 : BitVec 1 := Scalar.cmpi .ne v1406 c0_i32_409
  v1407

def k0_off27 (v1282 : BitVec 32) : Fin 2 → Nat :=
  let c0_i32_408 : BitVec 32 := 0#32
  let v1405 : BitVec 32 := Scalar.maxsi v1282 c0_i32_408
  let c0_i32_676 : BitVec 32 := 0#32
  ![v1405.toNat, 0]

def k0_chk11 (v1282 : BitVec 32) (v1403 : BitVec 32) : Prop :=
  (∀ (k0_h11 : k0_cond11 v1282 v1403 = 1#1), ∀ a, (k0_off26 v1282) a + S1x256.size a ≤ S128x256.size a) ∧
  (∀ (k0_h11 : k0_cond11 v1282 v1403 = 1#1), ∀ a, (k0_off27 v1282) a + S1x16.size a ≤ S128x16.size a)
theorem k0_off26_inb : ∀ (v1282 : BitVec 32) (v1403 : BitVec 32) (k0_hw11 : k0_chk11 v1282 v1403), ∀ (k0_h11 : k0_cond11 v1282 v1403 = 1#1), ∀ a, (k0_off26 v1282) a + S1x256.size a ≤ S128x256.size a := fun v1282 v1403 k0_hw11 k0_h11 => k0_hw11.1 k0_h11
theorem k0_off27_inb : ∀ (v1282 : BitVec 32) (v1403 : BitVec 32) (k0_hw11 : k0_chk11 v1282 v1403), ∀ (k0_h11 : k0_cond11 v1282 v1403 = 1#1), ∀ a, (k0_off27 v1282) a + S1x16.size a ≤ S128x16.size a := fun v1282 v1403 k0_hw11 k0_h11 => k0_hw11.2 k0_h11

def k0_off28 (v1403 : BitVec 32) : Fin 2 → Nat :=
  let c0_i32_442 : BitVec 32 := 0#32
  let v1526 : BitVec 32 := Scalar.maxsi v1403 c0_i32_442
  let c0_i32_612 : BitVec 32 := 0#32
  ![v1526.toNat, 0]
def k0_cond12 (v1403 : BitVec 32) (v1524 : BitVec 32) : BitVec 1 :=
  let v1525 : BitVec 1 := Scalar.cmpi .ne v1524 v1403
  let v1527 : BitVec 32 := Scalar.extui v1525
  let c0_i32_443 : BitVec 32 := 0#32
  let v1528 : BitVec 1 := Scalar.cmpi .ne v1527 c0_i32_443
  v1528

def k0_off29 (v1403 : BitVec 32) : Fin 2 → Nat :=
  let c0_i32_442 : BitVec 32 := 0#32
  let v1526 : BitVec 32 := Scalar.maxsi v1403 c0_i32_442
  let c0_i32_676 : BitVec 32 := 0#32
  ![v1526.toNat, 0]

def k0_chk12 (v1403 : BitVec 32) (v1524 : BitVec 32) : Prop :=
  (∀ (k0_h12 : k0_cond12 v1403 v1524 = 1#1), ∀ a, (k0_off28 v1403) a + S1x256.size a ≤ S128x256.size a) ∧
  (∀ (k0_h12 : k0_cond12 v1403 v1524 = 1#1), ∀ a, (k0_off29 v1403) a + S1x16.size a ≤ S128x16.size a)
theorem k0_off28_inb : ∀ (v1403 : BitVec 32) (v1524 : BitVec 32) (k0_hw12 : k0_chk12 v1403 v1524), ∀ (k0_h12 : k0_cond12 v1403 v1524 = 1#1), ∀ a, (k0_off28 v1403) a + S1x256.size a ≤ S128x256.size a := fun v1403 v1524 k0_hw12 k0_h12 => k0_hw12.1 k0_h12
theorem k0_off29_inb : ∀ (v1403 : BitVec 32) (v1524 : BitVec 32) (k0_hw12 : k0_chk12 v1403 v1524), ∀ (k0_h12 : k0_cond12 v1403 v1524 = 1#1), ∀ a, (k0_off29 v1403) a + S1x16.size a ≤ S128x16.size a := fun v1403 v1524 k0_hw12 k0_h12 => k0_hw12.2 k0_h12

def k0_off30 (v1524 : BitVec 32) : Fin 2 → Nat :=
  let c0_i32_476 : BitVec 32 := 0#32
  let v1647 : BitVec 32 := Scalar.maxsi v1524 c0_i32_476
  let c0_i32_612 : BitVec 32 := 0#32
  ![v1647.toNat, 0]
def k0_cond13 (v1524 : BitVec 32) (v1645 : BitVec 32) : BitVec 1 :=
  let v1646 : BitVec 1 := Scalar.cmpi .ne v1645 v1524
  let v1648 : BitVec 32 := Scalar.extui v1646
  let c0_i32_477 : BitVec 32 := 0#32
  let v1649 : BitVec 1 := Scalar.cmpi .ne v1648 c0_i32_477
  v1649

def k0_off31 (v1524 : BitVec 32) : Fin 2 → Nat :=
  let c0_i32_476 : BitVec 32 := 0#32
  let v1647 : BitVec 32 := Scalar.maxsi v1524 c0_i32_476
  let c0_i32_676 : BitVec 32 := 0#32
  ![v1647.toNat, 0]

def k0_chk13 (v1524 : BitVec 32) (v1645 : BitVec 32) : Prop :=
  (∀ (k0_h13 : k0_cond13 v1524 v1645 = 1#1), ∀ a, (k0_off30 v1524) a + S1x256.size a ≤ S128x256.size a) ∧
  (∀ (k0_h13 : k0_cond13 v1524 v1645 = 1#1), ∀ a, (k0_off31 v1524) a + S1x16.size a ≤ S128x16.size a)
theorem k0_off30_inb : ∀ (v1524 : BitVec 32) (v1645 : BitVec 32) (k0_hw13 : k0_chk13 v1524 v1645), ∀ (k0_h13 : k0_cond13 v1524 v1645 = 1#1), ∀ a, (k0_off30 v1524) a + S1x256.size a ≤ S128x256.size a := fun v1524 v1645 k0_hw13 k0_h13 => k0_hw13.1 k0_h13
theorem k0_off31_inb : ∀ (v1524 : BitVec 32) (v1645 : BitVec 32) (k0_hw13 : k0_chk13 v1524 v1645), ∀ (k0_h13 : k0_cond13 v1524 v1645 = 1#1), ∀ a, (k0_off31 v1524) a + S1x16.size a ≤ S128x16.size a := fun v1524 v1645 k0_hw13 k0_h13 => k0_hw13.2 k0_h13

def k0_off32 (v1645 : BitVec 32) : Fin 2 → Nat :=
  let c0_i32_510 : BitVec 32 := 0#32
  let v1768 : BitVec 32 := Scalar.maxsi v1645 c0_i32_510
  let c0_i32_612 : BitVec 32 := 0#32
  ![v1768.toNat, 0]
def k0_cond14 (v1645 : BitVec 32) (v1766 : BitVec 32) : BitVec 1 :=
  let v1767 : BitVec 1 := Scalar.cmpi .ne v1766 v1645
  let v1769 : BitVec 32 := Scalar.extui v1767
  let c0_i32_511 : BitVec 32 := 0#32
  let v1770 : BitVec 1 := Scalar.cmpi .ne v1769 c0_i32_511
  v1770

def k0_off33 (v1645 : BitVec 32) : Fin 2 → Nat :=
  let c0_i32_510 : BitVec 32 := 0#32
  let v1768 : BitVec 32 := Scalar.maxsi v1645 c0_i32_510
  let c0_i32_676 : BitVec 32 := 0#32
  ![v1768.toNat, 0]

def k0_chk14 (v1645 : BitVec 32) (v1766 : BitVec 32) : Prop :=
  (∀ (k0_h14 : k0_cond14 v1645 v1766 = 1#1), ∀ a, (k0_off32 v1645) a + S1x256.size a ≤ S128x256.size a) ∧
  (∀ (k0_h14 : k0_cond14 v1645 v1766 = 1#1), ∀ a, (k0_off33 v1645) a + S1x16.size a ≤ S128x16.size a)
theorem k0_off32_inb : ∀ (v1645 : BitVec 32) (v1766 : BitVec 32) (k0_hw14 : k0_chk14 v1645 v1766), ∀ (k0_h14 : k0_cond14 v1645 v1766 = 1#1), ∀ a, (k0_off32 v1645) a + S1x256.size a ≤ S128x256.size a := fun v1645 v1766 k0_hw14 k0_h14 => k0_hw14.1 k0_h14
theorem k0_off33_inb : ∀ (v1645 : BitVec 32) (v1766 : BitVec 32) (k0_hw14 : k0_chk14 v1645 v1766), ∀ (k0_h14 : k0_cond14 v1645 v1766 = 1#1), ∀ a, (k0_off33 v1645) a + S1x16.size a ≤ S128x16.size a := fun v1645 v1766 k0_hw14 k0_h14 => k0_hw14.2 k0_h14

def k0_off34 (v1766 : BitVec 32) : Fin 2 → Nat :=
  let c0_i32_544 : BitVec 32 := 0#32
  let v1889 : BitVec 32 := Scalar.maxsi v1766 c0_i32_544
  let c0_i32_612 : BitVec 32 := 0#32
  ![v1889.toNat, 0]
def k0_cond15 (v1766 : BitVec 32) (v1887 : BitVec 32) : BitVec 1 :=
  let v1888 : BitVec 1 := Scalar.cmpi .ne v1887 v1766
  let v1890 : BitVec 32 := Scalar.extui v1888
  let c0_i32_545 : BitVec 32 := 0#32
  let v1891 : BitVec 1 := Scalar.cmpi .ne v1890 c0_i32_545
  v1891

def k0_off35 (v1766 : BitVec 32) : Fin 2 → Nat :=
  let c0_i32_544 : BitVec 32 := 0#32
  let v1889 : BitVec 32 := Scalar.maxsi v1766 c0_i32_544
  let c0_i32_676 : BitVec 32 := 0#32
  ![v1889.toNat, 0]

def k0_chk15 (v1766 : BitVec 32) (v1887 : BitVec 32) : Prop :=
  (∀ (k0_h15 : k0_cond15 v1766 v1887 = 1#1), ∀ a, (k0_off34 v1766) a + S1x256.size a ≤ S128x256.size a) ∧
  (∀ (k0_h15 : k0_cond15 v1766 v1887 = 1#1), ∀ a, (k0_off35 v1766) a + S1x16.size a ≤ S128x16.size a)
theorem k0_off34_inb : ∀ (v1766 : BitVec 32) (v1887 : BitVec 32) (k0_hw15 : k0_chk15 v1766 v1887), ∀ (k0_h15 : k0_cond15 v1766 v1887 = 1#1), ∀ a, (k0_off34 v1766) a + S1x256.size a ≤ S128x256.size a := fun v1766 v1887 k0_hw15 k0_h15 => k0_hw15.1 k0_h15
theorem k0_off35_inb : ∀ (v1766 : BitVec 32) (v1887 : BitVec 32) (k0_hw15 : k0_chk15 v1766 v1887), ∀ (k0_h15 : k0_cond15 v1766 v1887 = 1#1), ∀ a, (k0_off35 v1766) a + S1x16.size a ≤ S128x16.size a := fun v1766 v1887 k0_hw15 k0_h15 => k0_hw15.2 k0_h15

def k0_off36 (v1887 : BitVec 32) : Fin 2 → Nat :=
  let c0_i32_578 : BitVec 32 := 0#32
  let v2010 : BitVec 32 := Scalar.maxsi v1887 c0_i32_578
  let c0_i32_612 : BitVec 32 := 0#32
  ![v2010.toNat, 0]
def k0_cond16 (v1887 : BitVec 32) (v2008 : BitVec 32) : BitVec 1 :=
  let v2009 : BitVec 1 := Scalar.cmpi .ne v2008 v1887
  let v2011 : BitVec 32 := Scalar.extui v2009
  let c0_i32_579 : BitVec 32 := 0#32
  let v2012 : BitVec 1 := Scalar.cmpi .ne v2011 c0_i32_579
  v2012

def k0_off37 (v1887 : BitVec 32) : Fin 2 → Nat :=
  let c0_i32_578 : BitVec 32 := 0#32
  let v2010 : BitVec 32 := Scalar.maxsi v1887 c0_i32_578
  let c0_i32_676 : BitVec 32 := 0#32
  ![v2010.toNat, 0]

def k0_chk16 (v1887 : BitVec 32) (v2008 : BitVec 32) : Prop :=
  (∀ (k0_h16 : k0_cond16 v1887 v2008 = 1#1), ∀ a, (k0_off36 v1887) a + S1x256.size a ≤ S128x256.size a) ∧
  (∀ (k0_h16 : k0_cond16 v1887 v2008 = 1#1), ∀ a, (k0_off37 v1887) a + S1x16.size a ≤ S128x16.size a)
theorem k0_off36_inb : ∀ (v1887 : BitVec 32) (v2008 : BitVec 32) (k0_hw16 : k0_chk16 v1887 v2008), ∀ (k0_h16 : k0_cond16 v1887 v2008 = 1#1), ∀ a, (k0_off36 v1887) a + S1x256.size a ≤ S128x256.size a := fun v1887 v2008 k0_hw16 k0_h16 => k0_hw16.1 k0_h16
theorem k0_off37_inb : ∀ (v1887 : BitVec 32) (v2008 : BitVec 32) (k0_hw16 : k0_chk16 v1887 v2008), ∀ (k0_h16 : k0_cond16 v1887 v2008 = 1#1), ∀ a, (k0_off37 v1887) a + S1x16.size a ≤ S128x16.size a := fun v1887 v2008 k0_hw16 k0_h16 => k0_hw16.2 k0_h16

@[reducible] def k0_t3_loop (i : grid0.Coords) : Scf.Loop 32 :=
  let c0_i32_9 : BitVec 32 := 0#32
  let c97_i32_1 : BitVec 32 := 97#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c21_i32_0 : BitVec 32 := 21#32
  let v5 : BitVec 1 := Scalar.cmpi .slt v1 c21_i32_0
  let c1_i32 : BitVec 32 := 1#32
  let c0_i32 : BitVec 32 := 0#32
  let v6 : BitVec 32 := Scalar.select v5 c1_i32 c0_i32
  let v7 : BitVec 32 := Scalar.addi c97_i32_1 v6
  let v13 : BitVec 32 := Scalar.subi v7 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let v14 : BitVec 32 := Scalar.addi c0_i32_9 v13
  let c1_i32_12 : BitVec 32 := 1#32
  ⟨v17, v14, c1_i32_12⟩
def k0_off38 (i : grid0.Coords) (k0_t3 : Fin (k0_t3_loop i).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c97_i32 : BitVec 32 := 97#32
  let v2 : BitVec 32 := Scalar.muli v1 c97_i32
  let c21_i32 : BitVec 32 := 21#32
  let v3 : BitVec 32 := Scalar.minsi v1 c21_i32
  let v4 : BitVec 32 := Scalar.addi v2 v3
  let c0_i32_9 : BitVec 32 := 0#32
  let c97_i32_1 : BitVec 32 := 97#32
  let c21_i32_0 : BitVec 32 := 21#32
  let v5 : BitVec 1 := Scalar.cmpi .slt v1 c21_i32_0
  let c1_i32 : BitVec 32 := 1#32
  let c0_i32 : BitVec 32 := 0#32
  let v6 : BitVec 32 := Scalar.select v5 c1_i32 c0_i32
  let v7 : BitVec 32 := Scalar.addi c97_i32_1 v6
  let v13 : BitVec 32 := Scalar.subi v7 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg12 : BitVec 32 := Scf.iv v17 c1_i32_12 k0_t3
  let v186 : BitVec 32 := Scalar.addi v4 arg12
  let c16_i32_64 : BitVec 32 := 16#32
  let v187 : BitVec 32 := Scalar.muli v186 c16_i32_64
  let c0_i32_612_r2 : BitVec 32 := 0#32
  ![v187.toNat, 0]
def k0_off39 (i : grid0.Coords) (k0_t3 : Fin (k0_t3_loop i).trips) : Fin 1 → Nat :=
  let c0_i32_9 : BitVec 32 := 0#32
  let c97_i32_1 : BitVec 32 := 97#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c21_i32_0 : BitVec 32 := 21#32
  let v5 : BitVec 1 := Scalar.cmpi .slt v1 c21_i32_0
  let c1_i32 : BitVec 32 := 1#32
  let c0_i32 : BitVec 32 := 0#32
  let v6 : BitVec 32 := Scalar.select v5 c1_i32 c0_i32
  let v7 : BitVec 32 := Scalar.addi c97_i32_1 v6
  let v13 : BitVec 32 := Scalar.subi v7 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_12 : BitVec 32 := 1#32
  let arg12 : BitVec 32 := Scf.iv v17 c1_i32_12 k0_t3
  let c16_i32_65 : BitVec 32 := 16#32
  let v188 : BitVec 32 := Scalar.muli arg12 c16_i32_65
  let v189 : Index := Scalar.indexCast v188
  ![v189.toNat]
def k0_off40 (arg13 : BitVec 32) : Fin 2 → Nat :=
  let c0_i32_66 : BitVec 32 := 0#32
  let v195 : BitVec 32 := Scalar.maxsi arg13 c0_i32_66
  let c0_i32_612 : BitVec 32 := 0#32
  ![v195.toNat, 0]
def k0_cond17 (arg13 : BitVec 32) (v193 : BitVec 32) : BitVec 1 :=
  let v194 : BitVec 1 := Scalar.cmpi .ne v193 arg13
  let v196 : BitVec 32 := Scalar.extui v194
  let c0_i32_67 : BitVec 32 := 0#32
  let v197 : BitVec 1 := Scalar.cmpi .ne v196 c0_i32_67
  v197

def k0_off41 (arg13 : BitVec 32) : Fin 2 → Nat :=
  let c0_i32_66 : BitVec 32 := 0#32
  let v195 : BitVec 32 := Scalar.maxsi arg13 c0_i32_66
  let c0_i32_676 : BitVec 32 := 0#32
  ![v195.toNat, 0]

def k0_chk17 (i : grid0.Coords) (k0_t3 : Fin (k0_t3_loop i).trips) (arg13 : BitVec 32) (v193 : BitVec 32) : Prop :=
  (∀ (k0_h17 : k0_cond17 arg13 v193 = 1#1), ∀ a, (k0_off40 arg13) a + S1x256.size a ≤ S128x256.size a) ∧
  (∀ (k0_h17 : k0_cond17 arg13 v193 = 1#1), ∀ a, (k0_off41 arg13) a + S1x16.size a ≤ S128x16.size a)
theorem k0_off40_inb : ∀ (i : grid0.Coords) (k0_t3 : Fin (k0_t3_loop i).trips) (arg13 : BitVec 32) (v193 : BitVec 32) (k0_hw17 : k0_chk17 i k0_t3 arg13 v193), ∀ (k0_h17 : k0_cond17 arg13 v193 = 1#1), ∀ a, (k0_off40 arg13) a + S1x256.size a ≤ S128x256.size a := fun i k0_t3 arg13 v193 k0_hw17 k0_h17 => k0_hw17.1 k0_h17
theorem k0_off41_inb : ∀ (i : grid0.Coords) (k0_t3 : Fin (k0_t3_loop i).trips) (arg13 : BitVec 32) (v193 : BitVec 32) (k0_hw17 : k0_chk17 i k0_t3 arg13 v193), ∀ (k0_h17 : k0_cond17 arg13 v193 = 1#1), ∀ a, (k0_off41 arg13) a + S1x16.size a ≤ S128x16.size a := fun i k0_t3 arg13 v193 k0_hw17 k0_h17 => k0_hw17.2 k0_h17

def k0_off42 (v193 : BitVec 32) : Fin 2 → Nat :=
  let c0_i32_101 : BitVec 32 := 0#32
  let v316 : BitVec 32 := Scalar.maxsi v193 c0_i32_101
  let c0_i32_612 : BitVec 32 := 0#32
  ![v316.toNat, 0]
def k0_cond18 (v193 : BitVec 32) (v314 : BitVec 32) : BitVec 1 :=
  let v315 : BitVec 1 := Scalar.cmpi .ne v314 v193
  let v317 : BitVec 32 := Scalar.extui v315
  let c0_i32_102 : BitVec 32 := 0#32
  let v318 : BitVec 1 := Scalar.cmpi .ne v317 c0_i32_102
  v318

def k0_off43 (v193 : BitVec 32) : Fin 2 → Nat :=
  let c0_i32_101 : BitVec 32 := 0#32
  let v316 : BitVec 32 := Scalar.maxsi v193 c0_i32_101
  let c0_i32_676 : BitVec 32 := 0#32
  ![v316.toNat, 0]

def k0_chk18 (i : grid0.Coords) (k0_t3 : Fin (k0_t3_loop i).trips) (v193 : BitVec 32) (v314 : BitVec 32) : Prop :=
  (∀ (k0_h18 : k0_cond18 v193 v314 = 1#1), ∀ a, (k0_off42 v193) a + S1x256.size a ≤ S128x256.size a) ∧
  (∀ (k0_h18 : k0_cond18 v193 v314 = 1#1), ∀ a, (k0_off43 v193) a + S1x16.size a ≤ S128x16.size a)
theorem k0_off42_inb : ∀ (i : grid0.Coords) (k0_t3 : Fin (k0_t3_loop i).trips) (v193 : BitVec 32) (v314 : BitVec 32) (k0_hw18 : k0_chk18 i k0_t3 v193 v314), ∀ (k0_h18 : k0_cond18 v193 v314 = 1#1), ∀ a, (k0_off42 v193) a + S1x256.size a ≤ S128x256.size a := fun i k0_t3 v193 v314 k0_hw18 k0_h18 => k0_hw18.1 k0_h18
theorem k0_off43_inb : ∀ (i : grid0.Coords) (k0_t3 : Fin (k0_t3_loop i).trips) (v193 : BitVec 32) (v314 : BitVec 32) (k0_hw18 : k0_chk18 i k0_t3 v193 v314), ∀ (k0_h18 : k0_cond18 v193 v314 = 1#1), ∀ a, (k0_off43 v193) a + S1x16.size a ≤ S128x16.size a := fun i k0_t3 v193 v314 k0_hw18 k0_h18 => k0_hw18.2 k0_h18

def k0_off44 (v314 : BitVec 32) : Fin 2 → Nat :=
  let c0_i32_136 : BitVec 32 := 0#32
  let v437 : BitVec 32 := Scalar.maxsi v314 c0_i32_136
  let c0_i32_612 : BitVec 32 := 0#32
  ![v437.toNat, 0]
def k0_cond19 (v314 : BitVec 32) (v435 : BitVec 32) : BitVec 1 :=
  let v436 : BitVec 1 := Scalar.cmpi .ne v435 v314
  let v438 : BitVec 32 := Scalar.extui v436
  let c0_i32_137 : BitVec 32 := 0#32
  let v439 : BitVec 1 := Scalar.cmpi .ne v438 c0_i32_137
  v439

def k0_off45 (v314 : BitVec 32) : Fin 2 → Nat :=
  let c0_i32_136 : BitVec 32 := 0#32
  let v437 : BitVec 32 := Scalar.maxsi v314 c0_i32_136
  let c0_i32_676 : BitVec 32 := 0#32
  ![v437.toNat, 0]

def k0_chk19 (i : grid0.Coords) (k0_t3 : Fin (k0_t3_loop i).trips) (v314 : BitVec 32) (v435 : BitVec 32) : Prop :=
  (∀ (k0_h19 : k0_cond19 v314 v435 = 1#1), ∀ a, (k0_off44 v314) a + S1x256.size a ≤ S128x256.size a) ∧
  (∀ (k0_h19 : k0_cond19 v314 v435 = 1#1), ∀ a, (k0_off45 v314) a + S1x16.size a ≤ S128x16.size a)
theorem k0_off44_inb : ∀ (i : grid0.Coords) (k0_t3 : Fin (k0_t3_loop i).trips) (v314 : BitVec 32) (v435 : BitVec 32) (k0_hw19 : k0_chk19 i k0_t3 v314 v435), ∀ (k0_h19 : k0_cond19 v314 v435 = 1#1), ∀ a, (k0_off44 v314) a + S1x256.size a ≤ S128x256.size a := fun i k0_t3 v314 v435 k0_hw19 k0_h19 => k0_hw19.1 k0_h19
theorem k0_off45_inb : ∀ (i : grid0.Coords) (k0_t3 : Fin (k0_t3_loop i).trips) (v314 : BitVec 32) (v435 : BitVec 32) (k0_hw19 : k0_chk19 i k0_t3 v314 v435), ∀ (k0_h19 : k0_cond19 v314 v435 = 1#1), ∀ a, (k0_off45 v314) a + S1x16.size a ≤ S128x16.size a := fun i k0_t3 v314 v435 k0_hw19 k0_h19 => k0_hw19.2 k0_h19

def k0_off46 (v435 : BitVec 32) : Fin 2 → Nat :=
  let c0_i32_170 : BitVec 32 := 0#32
  let v558 : BitVec 32 := Scalar.maxsi v435 c0_i32_170
  let c0_i32_612 : BitVec 32 := 0#32
  ![v558.toNat, 0]
def k0_cond20 (v435 : BitVec 32) (v556 : BitVec 32) : BitVec 1 :=
  let v557 : BitVec 1 := Scalar.cmpi .ne v556 v435
  let v559 : BitVec 32 := Scalar.extui v557
  let c0_i32_171 : BitVec 32 := 0#32
  let v560 : BitVec 1 := Scalar.cmpi .ne v559 c0_i32_171
  v560

def k0_off47 (v435 : BitVec 32) : Fin 2 → Nat :=
  let c0_i32_170 : BitVec 32 := 0#32
  let v558 : BitVec 32 := Scalar.maxsi v435 c0_i32_170
  let c0_i32_676 : BitVec 32 := 0#32
  ![v558.toNat, 0]

def k0_chk20 (i : grid0.Coords) (k0_t3 : Fin (k0_t3_loop i).trips) (v435 : BitVec 32) (v556 : BitVec 32) : Prop :=
  (∀ (k0_h20 : k0_cond20 v435 v556 = 1#1), ∀ a, (k0_off46 v435) a + S1x256.size a ≤ S128x256.size a) ∧
  (∀ (k0_h20 : k0_cond20 v435 v556 = 1#1), ∀ a, (k0_off47 v435) a + S1x16.size a ≤ S128x16.size a)
theorem k0_off46_inb : ∀ (i : grid0.Coords) (k0_t3 : Fin (k0_t3_loop i).trips) (v435 : BitVec 32) (v556 : BitVec 32) (k0_hw20 : k0_chk20 i k0_t3 v435 v556), ∀ (k0_h20 : k0_cond20 v435 v556 = 1#1), ∀ a, (k0_off46 v435) a + S1x256.size a ≤ S128x256.size a := fun i k0_t3 v435 v556 k0_hw20 k0_h20 => k0_hw20.1 k0_h20
theorem k0_off47_inb : ∀ (i : grid0.Coords) (k0_t3 : Fin (k0_t3_loop i).trips) (v435 : BitVec 32) (v556 : BitVec 32) (k0_hw20 : k0_chk20 i k0_t3 v435 v556), ∀ (k0_h20 : k0_cond20 v435 v556 = 1#1), ∀ a, (k0_off47 v435) a + S1x16.size a ≤ S128x16.size a := fun i k0_t3 v435 v556 k0_hw20 k0_h20 => k0_hw20.2 k0_h20

def k0_off48 (v556 : BitVec 32) : Fin 2 → Nat :=
  let c0_i32_204 : BitVec 32 := 0#32
  let v679 : BitVec 32 := Scalar.maxsi v556 c0_i32_204
  let c0_i32_612 : BitVec 32 := 0#32
  ![v679.toNat, 0]
def k0_cond21 (v556 : BitVec 32) (v677 : BitVec 32) : BitVec 1 :=
  let v678 : BitVec 1 := Scalar.cmpi .ne v677 v556
  let v680 : BitVec 32 := Scalar.extui v678
  let c0_i32_205 : BitVec 32 := 0#32
  let v681 : BitVec 1 := Scalar.cmpi .ne v680 c0_i32_205
  v681

def k0_off49 (v556 : BitVec 32) : Fin 2 → Nat :=
  let c0_i32_204 : BitVec 32 := 0#32
  let v679 : BitVec 32 := Scalar.maxsi v556 c0_i32_204
  let c0_i32_676 : BitVec 32 := 0#32
  ![v679.toNat, 0]

def k0_chk21 (i : grid0.Coords) (k0_t3 : Fin (k0_t3_loop i).trips) (v556 : BitVec 32) (v677 : BitVec 32) : Prop :=
  (∀ (k0_h21 : k0_cond21 v556 v677 = 1#1), ∀ a, (k0_off48 v556) a + S1x256.size a ≤ S128x256.size a) ∧
  (∀ (k0_h21 : k0_cond21 v556 v677 = 1#1), ∀ a, (k0_off49 v556) a + S1x16.size a ≤ S128x16.size a)
theorem k0_off48_inb : ∀ (i : grid0.Coords) (k0_t3 : Fin (k0_t3_loop i).trips) (v556 : BitVec 32) (v677 : BitVec 32) (k0_hw21 : k0_chk21 i k0_t3 v556 v677), ∀ (k0_h21 : k0_cond21 v556 v677 = 1#1), ∀ a, (k0_off48 v556) a + S1x256.size a ≤ S128x256.size a := fun i k0_t3 v556 v677 k0_hw21 k0_h21 => k0_hw21.1 k0_h21
theorem k0_off49_inb : ∀ (i : grid0.Coords) (k0_t3 : Fin (k0_t3_loop i).trips) (v556 : BitVec 32) (v677 : BitVec 32) (k0_hw21 : k0_chk21 i k0_t3 v556 v677), ∀ (k0_h21 : k0_cond21 v556 v677 = 1#1), ∀ a, (k0_off49 v556) a + S1x16.size a ≤ S128x16.size a := fun i k0_t3 v556 v677 k0_hw21 k0_h21 => k0_hw21.2 k0_h21

def k0_off50 (v677 : BitVec 32) : Fin 2 → Nat :=
  let c0_i32_238 : BitVec 32 := 0#32
  let v800 : BitVec 32 := Scalar.maxsi v677 c0_i32_238
  let c0_i32_612 : BitVec 32 := 0#32
  ![v800.toNat, 0]
def k0_cond22 (v677 : BitVec 32) (v798 : BitVec 32) : BitVec 1 :=
  let v799 : BitVec 1 := Scalar.cmpi .ne v798 v677
  let v801 : BitVec 32 := Scalar.extui v799
  let c0_i32_239 : BitVec 32 := 0#32
  let v802 : BitVec 1 := Scalar.cmpi .ne v801 c0_i32_239
  v802

def k0_off51 (v677 : BitVec 32) : Fin 2 → Nat :=
  let c0_i32_238 : BitVec 32 := 0#32
  let v800 : BitVec 32 := Scalar.maxsi v677 c0_i32_238
  let c0_i32_676 : BitVec 32 := 0#32
  ![v800.toNat, 0]

def k0_chk22 (i : grid0.Coords) (k0_t3 : Fin (k0_t3_loop i).trips) (v677 : BitVec 32) (v798 : BitVec 32) : Prop :=
  (∀ (k0_h22 : k0_cond22 v677 v798 = 1#1), ∀ a, (k0_off50 v677) a + S1x256.size a ≤ S128x256.size a) ∧
  (∀ (k0_h22 : k0_cond22 v677 v798 = 1#1), ∀ a, (k0_off51 v677) a + S1x16.size a ≤ S128x16.size a)
theorem k0_off50_inb : ∀ (i : grid0.Coords) (k0_t3 : Fin (k0_t3_loop i).trips) (v677 : BitVec 32) (v798 : BitVec 32) (k0_hw22 : k0_chk22 i k0_t3 v677 v798), ∀ (k0_h22 : k0_cond22 v677 v798 = 1#1), ∀ a, (k0_off50 v677) a + S1x256.size a ≤ S128x256.size a := fun i k0_t3 v677 v798 k0_hw22 k0_h22 => k0_hw22.1 k0_h22
theorem k0_off51_inb : ∀ (i : grid0.Coords) (k0_t3 : Fin (k0_t3_loop i).trips) (v677 : BitVec 32) (v798 : BitVec 32) (k0_hw22 : k0_chk22 i k0_t3 v677 v798), ∀ (k0_h22 : k0_cond22 v677 v798 = 1#1), ∀ a, (k0_off51 v677) a + S1x16.size a ≤ S128x16.size a := fun i k0_t3 v677 v798 k0_hw22 k0_h22 => k0_hw22.2 k0_h22

def k0_off52 (v798 : BitVec 32) : Fin 2 → Nat :=
  let c0_i32_272 : BitVec 32 := 0#32
  let v921 : BitVec 32 := Scalar.maxsi v798 c0_i32_272
  let c0_i32_612 : BitVec 32 := 0#32
  ![v921.toNat, 0]
def k0_cond23 (v798 : BitVec 32) (v919 : BitVec 32) : BitVec 1 :=
  let v920 : BitVec 1 := Scalar.cmpi .ne v919 v798
  let v922 : BitVec 32 := Scalar.extui v920
  let c0_i32_273 : BitVec 32 := 0#32
  let v923 : BitVec 1 := Scalar.cmpi .ne v922 c0_i32_273
  v923

def k0_off53 (v798 : BitVec 32) : Fin 2 → Nat :=
  let c0_i32_272 : BitVec 32 := 0#32
  let v921 : BitVec 32 := Scalar.maxsi v798 c0_i32_272
  let c0_i32_676 : BitVec 32 := 0#32
  ![v921.toNat, 0]

def k0_chk23 (i : grid0.Coords) (k0_t3 : Fin (k0_t3_loop i).trips) (v798 : BitVec 32) (v919 : BitVec 32) : Prop :=
  (∀ (k0_h23 : k0_cond23 v798 v919 = 1#1), ∀ a, (k0_off52 v798) a + S1x256.size a ≤ S128x256.size a) ∧
  (∀ (k0_h23 : k0_cond23 v798 v919 = 1#1), ∀ a, (k0_off53 v798) a + S1x16.size a ≤ S128x16.size a)
theorem k0_off52_inb : ∀ (i : grid0.Coords) (k0_t3 : Fin (k0_t3_loop i).trips) (v798 : BitVec 32) (v919 : BitVec 32) (k0_hw23 : k0_chk23 i k0_t3 v798 v919), ∀ (k0_h23 : k0_cond23 v798 v919 = 1#1), ∀ a, (k0_off52 v798) a + S1x256.size a ≤ S128x256.size a := fun i k0_t3 v798 v919 k0_hw23 k0_h23 => k0_hw23.1 k0_h23
theorem k0_off53_inb : ∀ (i : grid0.Coords) (k0_t3 : Fin (k0_t3_loop i).trips) (v798 : BitVec 32) (v919 : BitVec 32) (k0_hw23 : k0_chk23 i k0_t3 v798 v919), ∀ (k0_h23 : k0_cond23 v798 v919 = 1#1), ∀ a, (k0_off53 v798) a + S1x16.size a ≤ S128x16.size a := fun i k0_t3 v798 v919 k0_hw23 k0_h23 => k0_hw23.2 k0_h23

def k0_off54 (v919 : BitVec 32) : Fin 2 → Nat :=
  let c0_i32_306 : BitVec 32 := 0#32
  let v1042 : BitVec 32 := Scalar.maxsi v919 c0_i32_306
  let c0_i32_612 : BitVec 32 := 0#32
  ![v1042.toNat, 0]
def k0_cond24 (v919 : BitVec 32) (v1040 : BitVec 32) : BitVec 1 :=
  let v1041 : BitVec 1 := Scalar.cmpi .ne v1040 v919
  let v1043 : BitVec 32 := Scalar.extui v1041
  let c0_i32_307 : BitVec 32 := 0#32
  let v1044 : BitVec 1 := Scalar.cmpi .ne v1043 c0_i32_307
  v1044

def k0_off55 (v919 : BitVec 32) : Fin 2 → Nat :=
  let c0_i32_306 : BitVec 32 := 0#32
  let v1042 : BitVec 32 := Scalar.maxsi v919 c0_i32_306
  let c0_i32_676 : BitVec 32 := 0#32
  ![v1042.toNat, 0]

def k0_chk24 (i : grid0.Coords) (k0_t3 : Fin (k0_t3_loop i).trips) (v919 : BitVec 32) (v1040 : BitVec 32) : Prop :=
  (∀ (k0_h24 : k0_cond24 v919 v1040 = 1#1), ∀ a, (k0_off54 v919) a + S1x256.size a ≤ S128x256.size a) ∧
  (∀ (k0_h24 : k0_cond24 v919 v1040 = 1#1), ∀ a, (k0_off55 v919) a + S1x16.size a ≤ S128x16.size a)
theorem k0_off54_inb : ∀ (i : grid0.Coords) (k0_t3 : Fin (k0_t3_loop i).trips) (v919 : BitVec 32) (v1040 : BitVec 32) (k0_hw24 : k0_chk24 i k0_t3 v919 v1040), ∀ (k0_h24 : k0_cond24 v919 v1040 = 1#1), ∀ a, (k0_off54 v919) a + S1x256.size a ≤ S128x256.size a := fun i k0_t3 v919 v1040 k0_hw24 k0_h24 => k0_hw24.1 k0_h24
theorem k0_off55_inb : ∀ (i : grid0.Coords) (k0_t3 : Fin (k0_t3_loop i).trips) (v919 : BitVec 32) (v1040 : BitVec 32) (k0_hw24 : k0_chk24 i k0_t3 v919 v1040), ∀ (k0_h24 : k0_cond24 v919 v1040 = 1#1), ∀ a, (k0_off55 v919) a + S1x16.size a ≤ S128x16.size a := fun i k0_t3 v919 v1040 k0_hw24 k0_h24 => k0_hw24.2 k0_h24

def k0_off56 (v1040 : BitVec 32) : Fin 2 → Nat :=
  let c0_i32_340 : BitVec 32 := 0#32
  let v1163 : BitVec 32 := Scalar.maxsi v1040 c0_i32_340
  let c0_i32_612 : BitVec 32 := 0#32
  ![v1163.toNat, 0]
def k0_cond25 (v1040 : BitVec 32) (v1161 : BitVec 32) : BitVec 1 :=
  let v1162 : BitVec 1 := Scalar.cmpi .ne v1161 v1040
  let v1164 : BitVec 32 := Scalar.extui v1162
  let c0_i32_341 : BitVec 32 := 0#32
  let v1165 : BitVec 1 := Scalar.cmpi .ne v1164 c0_i32_341
  v1165

def k0_off57 (v1040 : BitVec 32) : Fin 2 → Nat :=
  let c0_i32_340 : BitVec 32 := 0#32
  let v1163 : BitVec 32 := Scalar.maxsi v1040 c0_i32_340
  let c0_i32_676 : BitVec 32 := 0#32
  ![v1163.toNat, 0]

def k0_chk25 (i : grid0.Coords) (k0_t3 : Fin (k0_t3_loop i).trips) (v1040 : BitVec 32) (v1161 : BitVec 32) : Prop :=
  (∀ (k0_h25 : k0_cond25 v1040 v1161 = 1#1), ∀ a, (k0_off56 v1040) a + S1x256.size a ≤ S128x256.size a) ∧
  (∀ (k0_h25 : k0_cond25 v1040 v1161 = 1#1), ∀ a, (k0_off57 v1040) a + S1x16.size a ≤ S128x16.size a)
theorem k0_off56_inb : ∀ (i : grid0.Coords) (k0_t3 : Fin (k0_t3_loop i).trips) (v1040 : BitVec 32) (v1161 : BitVec 32) (k0_hw25 : k0_chk25 i k0_t3 v1040 v1161), ∀ (k0_h25 : k0_cond25 v1040 v1161 = 1#1), ∀ a, (k0_off56 v1040) a + S1x256.size a ≤ S128x256.size a := fun i k0_t3 v1040 v1161 k0_hw25 k0_h25 => k0_hw25.1 k0_h25
theorem k0_off57_inb : ∀ (i : grid0.Coords) (k0_t3 : Fin (k0_t3_loop i).trips) (v1040 : BitVec 32) (v1161 : BitVec 32) (k0_hw25 : k0_chk25 i k0_t3 v1040 v1161), ∀ (k0_h25 : k0_cond25 v1040 v1161 = 1#1), ∀ a, (k0_off57 v1040) a + S1x16.size a ≤ S128x16.size a := fun i k0_t3 v1040 v1161 k0_hw25 k0_h25 => k0_hw25.2 k0_h25

def k0_off58 (v1161 : BitVec 32) : Fin 2 → Nat :=
  let c0_i32_374 : BitVec 32 := 0#32
  let v1284 : BitVec 32 := Scalar.maxsi v1161 c0_i32_374
  let c0_i32_612 : BitVec 32 := 0#32
  ![v1284.toNat, 0]
def k0_cond26 (v1161 : BitVec 32) (v1282 : BitVec 32) : BitVec 1 :=
  let v1283 : BitVec 1 := Scalar.cmpi .ne v1282 v1161
  let v1285 : BitVec 32 := Scalar.extui v1283
  let c0_i32_375 : BitVec 32 := 0#32
  let v1286 : BitVec 1 := Scalar.cmpi .ne v1285 c0_i32_375
  v1286

def k0_off59 (v1161 : BitVec 32) : Fin 2 → Nat :=
  let c0_i32_374 : BitVec 32 := 0#32
  let v1284 : BitVec 32 := Scalar.maxsi v1161 c0_i32_374
  let c0_i32_676 : BitVec 32 := 0#32
  ![v1284.toNat, 0]

def k0_chk26 (i : grid0.Coords) (k0_t3 : Fin (k0_t3_loop i).trips) (v1161 : BitVec 32) (v1282 : BitVec 32) : Prop :=
  (∀ (k0_h26 : k0_cond26 v1161 v1282 = 1#1), ∀ a, (k0_off58 v1161) a + S1x256.size a ≤ S128x256.size a) ∧
  (∀ (k0_h26 : k0_cond26 v1161 v1282 = 1#1), ∀ a, (k0_off59 v1161) a + S1x16.size a ≤ S128x16.size a)
theorem k0_off58_inb : ∀ (i : grid0.Coords) (k0_t3 : Fin (k0_t3_loop i).trips) (v1161 : BitVec 32) (v1282 : BitVec 32) (k0_hw26 : k0_chk26 i k0_t3 v1161 v1282), ∀ (k0_h26 : k0_cond26 v1161 v1282 = 1#1), ∀ a, (k0_off58 v1161) a + S1x256.size a ≤ S128x256.size a := fun i k0_t3 v1161 v1282 k0_hw26 k0_h26 => k0_hw26.1 k0_h26
theorem k0_off59_inb : ∀ (i : grid0.Coords) (k0_t3 : Fin (k0_t3_loop i).trips) (v1161 : BitVec 32) (v1282 : BitVec 32) (k0_hw26 : k0_chk26 i k0_t3 v1161 v1282), ∀ (k0_h26 : k0_cond26 v1161 v1282 = 1#1), ∀ a, (k0_off59 v1161) a + S1x16.size a ≤ S128x16.size a := fun i k0_t3 v1161 v1282 k0_hw26 k0_h26 => k0_hw26.2 k0_h26

def k0_off60 (v1282 : BitVec 32) : Fin 2 → Nat :=
  let c0_i32_408 : BitVec 32 := 0#32
  let v1405 : BitVec 32 := Scalar.maxsi v1282 c0_i32_408
  let c0_i32_612 : BitVec 32 := 0#32
  ![v1405.toNat, 0]
def k0_cond27 (v1282 : BitVec 32) (v1403 : BitVec 32) : BitVec 1 :=
  let v1404 : BitVec 1 := Scalar.cmpi .ne v1403 v1282
  let v1406 : BitVec 32 := Scalar.extui v1404
  let c0_i32_409 : BitVec 32 := 0#32
  let v1407 : BitVec 1 := Scalar.cmpi .ne v1406 c0_i32_409
  v1407

def k0_off61 (v1282 : BitVec 32) : Fin 2 → Nat :=
  let c0_i32_408 : BitVec 32 := 0#32
  let v1405 : BitVec 32 := Scalar.maxsi v1282 c0_i32_408
  let c0_i32_676 : BitVec 32 := 0#32
  ![v1405.toNat, 0]

def k0_chk27 (i : grid0.Coords) (k0_t3 : Fin (k0_t3_loop i).trips) (v1282 : BitVec 32) (v1403 : BitVec 32) : Prop :=
  (∀ (k0_h27 : k0_cond27 v1282 v1403 = 1#1), ∀ a, (k0_off60 v1282) a + S1x256.size a ≤ S128x256.size a) ∧
  (∀ (k0_h27 : k0_cond27 v1282 v1403 = 1#1), ∀ a, (k0_off61 v1282) a + S1x16.size a ≤ S128x16.size a)
theorem k0_off60_inb : ∀ (i : grid0.Coords) (k0_t3 : Fin (k0_t3_loop i).trips) (v1282 : BitVec 32) (v1403 : BitVec 32) (k0_hw27 : k0_chk27 i k0_t3 v1282 v1403), ∀ (k0_h27 : k0_cond27 v1282 v1403 = 1#1), ∀ a, (k0_off60 v1282) a + S1x256.size a ≤ S128x256.size a := fun i k0_t3 v1282 v1403 k0_hw27 k0_h27 => k0_hw27.1 k0_h27
theorem k0_off61_inb : ∀ (i : grid0.Coords) (k0_t3 : Fin (k0_t3_loop i).trips) (v1282 : BitVec 32) (v1403 : BitVec 32) (k0_hw27 : k0_chk27 i k0_t3 v1282 v1403), ∀ (k0_h27 : k0_cond27 v1282 v1403 = 1#1), ∀ a, (k0_off61 v1282) a + S1x16.size a ≤ S128x16.size a := fun i k0_t3 v1282 v1403 k0_hw27 k0_h27 => k0_hw27.2 k0_h27

def k0_off62 (v1403 : BitVec 32) : Fin 2 → Nat :=
  let c0_i32_442 : BitVec 32 := 0#32
  let v1526 : BitVec 32 := Scalar.maxsi v1403 c0_i32_442
  let c0_i32_612 : BitVec 32 := 0#32
  ![v1526.toNat, 0]
def k0_cond28 (v1403 : BitVec 32) (v1524 : BitVec 32) : BitVec 1 :=
  let v1525 : BitVec 1 := Scalar.cmpi .ne v1524 v1403
  let v1527 : BitVec 32 := Scalar.extui v1525
  let c0_i32_443 : BitVec 32 := 0#32
  let v1528 : BitVec 1 := Scalar.cmpi .ne v1527 c0_i32_443
  v1528

def k0_off63 (v1403 : BitVec 32) : Fin 2 → Nat :=
  let c0_i32_442 : BitVec 32 := 0#32
  let v1526 : BitVec 32 := Scalar.maxsi v1403 c0_i32_442
  let c0_i32_676 : BitVec 32 := 0#32
  ![v1526.toNat, 0]

def k0_chk28 (i : grid0.Coords) (k0_t3 : Fin (k0_t3_loop i).trips) (v1403 : BitVec 32) (v1524 : BitVec 32) : Prop :=
  (∀ (k0_h28 : k0_cond28 v1403 v1524 = 1#1), ∀ a, (k0_off62 v1403) a + S1x256.size a ≤ S128x256.size a) ∧
  (∀ (k0_h28 : k0_cond28 v1403 v1524 = 1#1), ∀ a, (k0_off63 v1403) a + S1x16.size a ≤ S128x16.size a)
theorem k0_off62_inb : ∀ (i : grid0.Coords) (k0_t3 : Fin (k0_t3_loop i).trips) (v1403 : BitVec 32) (v1524 : BitVec 32) (k0_hw28 : k0_chk28 i k0_t3 v1403 v1524), ∀ (k0_h28 : k0_cond28 v1403 v1524 = 1#1), ∀ a, (k0_off62 v1403) a + S1x256.size a ≤ S128x256.size a := fun i k0_t3 v1403 v1524 k0_hw28 k0_h28 => k0_hw28.1 k0_h28
theorem k0_off63_inb : ∀ (i : grid0.Coords) (k0_t3 : Fin (k0_t3_loop i).trips) (v1403 : BitVec 32) (v1524 : BitVec 32) (k0_hw28 : k0_chk28 i k0_t3 v1403 v1524), ∀ (k0_h28 : k0_cond28 v1403 v1524 = 1#1), ∀ a, (k0_off63 v1403) a + S1x16.size a ≤ S128x16.size a := fun i k0_t3 v1403 v1524 k0_hw28 k0_h28 => k0_hw28.2 k0_h28

def k0_off64 (v1524 : BitVec 32) : Fin 2 → Nat :=
  let c0_i32_476 : BitVec 32 := 0#32
  let v1647 : BitVec 32 := Scalar.maxsi v1524 c0_i32_476
  let c0_i32_612 : BitVec 32 := 0#32
  ![v1647.toNat, 0]
def k0_cond29 (v1524 : BitVec 32) (v1645 : BitVec 32) : BitVec 1 :=
  let v1646 : BitVec 1 := Scalar.cmpi .ne v1645 v1524
  let v1648 : BitVec 32 := Scalar.extui v1646
  let c0_i32_477 : BitVec 32 := 0#32
  let v1649 : BitVec 1 := Scalar.cmpi .ne v1648 c0_i32_477
  v1649

def k0_off65 (v1524 : BitVec 32) : Fin 2 → Nat :=
  let c0_i32_476 : BitVec 32 := 0#32
  let v1647 : BitVec 32 := Scalar.maxsi v1524 c0_i32_476
  let c0_i32_676 : BitVec 32 := 0#32
  ![v1647.toNat, 0]

def k0_chk29 (i : grid0.Coords) (k0_t3 : Fin (k0_t3_loop i).trips) (v1524 : BitVec 32) (v1645 : BitVec 32) : Prop :=
  (∀ (k0_h29 : k0_cond29 v1524 v1645 = 1#1), ∀ a, (k0_off64 v1524) a + S1x256.size a ≤ S128x256.size a) ∧
  (∀ (k0_h29 : k0_cond29 v1524 v1645 = 1#1), ∀ a, (k0_off65 v1524) a + S1x16.size a ≤ S128x16.size a)
theorem k0_off64_inb : ∀ (i : grid0.Coords) (k0_t3 : Fin (k0_t3_loop i).trips) (v1524 : BitVec 32) (v1645 : BitVec 32) (k0_hw29 : k0_chk29 i k0_t3 v1524 v1645), ∀ (k0_h29 : k0_cond29 v1524 v1645 = 1#1), ∀ a, (k0_off64 v1524) a + S1x256.size a ≤ S128x256.size a := fun i k0_t3 v1524 v1645 k0_hw29 k0_h29 => k0_hw29.1 k0_h29
theorem k0_off65_inb : ∀ (i : grid0.Coords) (k0_t3 : Fin (k0_t3_loop i).trips) (v1524 : BitVec 32) (v1645 : BitVec 32) (k0_hw29 : k0_chk29 i k0_t3 v1524 v1645), ∀ (k0_h29 : k0_cond29 v1524 v1645 = 1#1), ∀ a, (k0_off65 v1524) a + S1x16.size a ≤ S128x16.size a := fun i k0_t3 v1524 v1645 k0_hw29 k0_h29 => k0_hw29.2 k0_h29

def k0_off66 (v1645 : BitVec 32) : Fin 2 → Nat :=
  let c0_i32_510 : BitVec 32 := 0#32
  let v1768 : BitVec 32 := Scalar.maxsi v1645 c0_i32_510
  let c0_i32_612 : BitVec 32 := 0#32
  ![v1768.toNat, 0]
def k0_cond30 (v1645 : BitVec 32) (v1766 : BitVec 32) : BitVec 1 :=
  let v1767 : BitVec 1 := Scalar.cmpi .ne v1766 v1645
  let v1769 : BitVec 32 := Scalar.extui v1767
  let c0_i32_511 : BitVec 32 := 0#32
  let v1770 : BitVec 1 := Scalar.cmpi .ne v1769 c0_i32_511
  v1770

def k0_off67 (v1645 : BitVec 32) : Fin 2 → Nat :=
  let c0_i32_510 : BitVec 32 := 0#32
  let v1768 : BitVec 32 := Scalar.maxsi v1645 c0_i32_510
  let c0_i32_676 : BitVec 32 := 0#32
  ![v1768.toNat, 0]

def k0_chk30 (i : grid0.Coords) (k0_t3 : Fin (k0_t3_loop i).trips) (v1645 : BitVec 32) (v1766 : BitVec 32) : Prop :=
  (∀ (k0_h30 : k0_cond30 v1645 v1766 = 1#1), ∀ a, (k0_off66 v1645) a + S1x256.size a ≤ S128x256.size a) ∧
  (∀ (k0_h30 : k0_cond30 v1645 v1766 = 1#1), ∀ a, (k0_off67 v1645) a + S1x16.size a ≤ S128x16.size a)
theorem k0_off66_inb : ∀ (i : grid0.Coords) (k0_t3 : Fin (k0_t3_loop i).trips) (v1645 : BitVec 32) (v1766 : BitVec 32) (k0_hw30 : k0_chk30 i k0_t3 v1645 v1766), ∀ (k0_h30 : k0_cond30 v1645 v1766 = 1#1), ∀ a, (k0_off66 v1645) a + S1x256.size a ≤ S128x256.size a := fun i k0_t3 v1645 v1766 k0_hw30 k0_h30 => k0_hw30.1 k0_h30
theorem k0_off67_inb : ∀ (i : grid0.Coords) (k0_t3 : Fin (k0_t3_loop i).trips) (v1645 : BitVec 32) (v1766 : BitVec 32) (k0_hw30 : k0_chk30 i k0_t3 v1645 v1766), ∀ (k0_h30 : k0_cond30 v1645 v1766 = 1#1), ∀ a, (k0_off67 v1645) a + S1x16.size a ≤ S128x16.size a := fun i k0_t3 v1645 v1766 k0_hw30 k0_h30 => k0_hw30.2 k0_h30

def k0_off68 (v1766 : BitVec 32) : Fin 2 → Nat :=
  let c0_i32_544 : BitVec 32 := 0#32
  let v1889 : BitVec 32 := Scalar.maxsi v1766 c0_i32_544
  let c0_i32_612 : BitVec 32 := 0#32
  ![v1889.toNat, 0]
def k0_cond31 (v1766 : BitVec 32) (v1887 : BitVec 32) : BitVec 1 :=
  let v1888 : BitVec 1 := Scalar.cmpi .ne v1887 v1766
  let v1890 : BitVec 32 := Scalar.extui v1888
  let c0_i32_545 : BitVec 32 := 0#32
  let v1891 : BitVec 1 := Scalar.cmpi .ne v1890 c0_i32_545
  v1891

def k0_off69 (v1766 : BitVec 32) : Fin 2 → Nat :=
  let c0_i32_544 : BitVec 32 := 0#32
  let v1889 : BitVec 32 := Scalar.maxsi v1766 c0_i32_544
  let c0_i32_676 : BitVec 32 := 0#32
  ![v1889.toNat, 0]

def k0_chk31 (i : grid0.Coords) (k0_t3 : Fin (k0_t3_loop i).trips) (v1766 : BitVec 32) (v1887 : BitVec 32) : Prop :=
  (∀ (k0_h31 : k0_cond31 v1766 v1887 = 1#1), ∀ a, (k0_off68 v1766) a + S1x256.size a ≤ S128x256.size a) ∧
  (∀ (k0_h31 : k0_cond31 v1766 v1887 = 1#1), ∀ a, (k0_off69 v1766) a + S1x16.size a ≤ S128x16.size a)
theorem k0_off68_inb : ∀ (i : grid0.Coords) (k0_t3 : Fin (k0_t3_loop i).trips) (v1766 : BitVec 32) (v1887 : BitVec 32) (k0_hw31 : k0_chk31 i k0_t3 v1766 v1887), ∀ (k0_h31 : k0_cond31 v1766 v1887 = 1#1), ∀ a, (k0_off68 v1766) a + S1x256.size a ≤ S128x256.size a := fun i k0_t3 v1766 v1887 k0_hw31 k0_h31 => k0_hw31.1 k0_h31
theorem k0_off69_inb : ∀ (i : grid0.Coords) (k0_t3 : Fin (k0_t3_loop i).trips) (v1766 : BitVec 32) (v1887 : BitVec 32) (k0_hw31 : k0_chk31 i k0_t3 v1766 v1887), ∀ (k0_h31 : k0_cond31 v1766 v1887 = 1#1), ∀ a, (k0_off69 v1766) a + S1x16.size a ≤ S128x16.size a := fun i k0_t3 v1766 v1887 k0_hw31 k0_h31 => k0_hw31.2 k0_h31

def k0_off70 (v1887 : BitVec 32) : Fin 2 → Nat :=
  let c0_i32_578 : BitVec 32 := 0#32
  let v2010 : BitVec 32 := Scalar.maxsi v1887 c0_i32_578
  let c0_i32_612 : BitVec 32 := 0#32
  ![v2010.toNat, 0]
def k0_cond32 (v1887 : BitVec 32) (v2008 : BitVec 32) : BitVec 1 :=
  let v2009 : BitVec 1 := Scalar.cmpi .ne v2008 v1887
  let v2011 : BitVec 32 := Scalar.extui v2009
  let c0_i32_579 : BitVec 32 := 0#32
  let v2012 : BitVec 1 := Scalar.cmpi .ne v2011 c0_i32_579
  v2012

def k0_off71 (v1887 : BitVec 32) : Fin 2 → Nat :=
  let c0_i32_578 : BitVec 32 := 0#32
  let v2010 : BitVec 32 := Scalar.maxsi v1887 c0_i32_578
  let c0_i32_676 : BitVec 32 := 0#32
  ![v2010.toNat, 0]

def k0_chk32 (i : grid0.Coords) (k0_t3 : Fin (k0_t3_loop i).trips) (v1887 : BitVec 32) (v2008 : BitVec 32) : Prop :=
  (∀ (k0_h32 : k0_cond32 v1887 v2008 = 1#1), ∀ a, (k0_off70 v1887) a + S1x256.size a ≤ S128x256.size a) ∧
  (∀ (k0_h32 : k0_cond32 v1887 v2008 = 1#1), ∀ a, (k0_off71 v1887) a + S1x16.size a ≤ S128x16.size a)
theorem k0_off70_inb : ∀ (i : grid0.Coords) (k0_t3 : Fin (k0_t3_loop i).trips) (v1887 : BitVec 32) (v2008 : BitVec 32) (k0_hw32 : k0_chk32 i k0_t3 v1887 v2008), ∀ (k0_h32 : k0_cond32 v1887 v2008 = 1#1), ∀ a, (k0_off70 v1887) a + S1x256.size a ≤ S128x256.size a := fun i k0_t3 v1887 v2008 k0_hw32 k0_h32 => k0_hw32.1 k0_h32
theorem k0_off71_inb : ∀ (i : grid0.Coords) (k0_t3 : Fin (k0_t3_loop i).trips) (v1887 : BitVec 32) (v2008 : BitVec 32) (k0_hw32 : k0_chk32 i k0_t3 v1887 v2008), ∀ (k0_h32 : k0_cond32 v1887 v2008 = 1#1), ∀ a, (k0_off71 v1887) a + S1x16.size a ≤ S128x16.size a := fun i k0_t3 v1887 v2008 k0_hw32 k0_h32 => k0_hw32.2 k0_h32

def k0_off72 (v19_0 : BitVec 32) : Fin 2 → Nat :=
  let c0_i32_13 : BitVec 32 := 0#32
  let v20 : BitVec 32 := Scalar.maxsi v19_0 c0_i32_13
  let c0_i32_14 : BitVec 32 := 0#32
  ![v20.toNat, 0]

def k0_off73 (v19_0 : BitVec 32) : Fin 2 → Nat :=
  let c0_i32_13 : BitVec 32 := 0#32
  let v20 : BitVec 32 := Scalar.maxsi v19_0 c0_i32_13
  let c0_i32_62 : BitVec 32 := 0#32
  ![v20.toNat, 0]

def k0_chk33 (v19_0 : BitVec 32) : Prop :=
  (∀ a, (k0_off72 v19_0) a + S1x256.size a ≤ S128x256.size a) ∧
  (∀ a, (k0_off73 v19_0) a + S1x16.size a ≤ S128x16.size a)
theorem k0_off72_inb : ∀ (v19_0 : BitVec 32) (k0_hw33 : k0_chk33 v19_0), ∀ a, (k0_off72 v19_0) a + S1x256.size a ≤ S128x256.size a := fun v19_0 k0_hw33 => k0_hw33.1
theorem k0_off73_inb : ∀ (v19_0 : BitVec 32) (k0_hw33 : k0_chk33 v19_0), ∀ a, (k0_off73 v19_0) a + S1x16.size a ≤ S128x16.size a := fun v19_0 k0_hw33 => k0_hw33.2

def k0_off74 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_64_r3 : BitVec 32 := 0#32
  let c0_i32_65_r3 : BitVec 32 := 0#32
  ![v1.toNat, 0, 0]
def k0_off75 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_64_r5 : BitVec 32 := 0#32
  let c0_i32_65_r5 : BitVec 32 := 0#32
  ![v1.toNat, 0, 0]
abbrev grid1 : Pipeline.Grid := .none

abbrev stage1_0 : Fin 1 → Memref sig .tc .vmem S32x128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S512 : Shape := ⟨1, ![512]⟩
abbrev S128 : Shape := ⟨1, ![128]⟩
abbrev S50000x1 : Shape := ⟨2, ![50000, 1]⟩
abbrev S1x128 : Shape := ⟨2, ![1, 128]⟩
abbrev S50000x128 : Shape := ⟨2, ![50000, 128]⟩
abbrev S50000x128x1 : Shape := ⟨3, ![50000, 128, 1]⟩
abbrev S50000x1x256 : Shape := ⟨3, ![50000, 1, 256]⟩
abbrev S_ : Shape := ⟨0, ![]⟩
abbrev S50000x128x256 : Shape := ⟨3, ![50000, 128, 256]⟩
abbrev S128x256 : Shape := ⟨2, ![128, 256]⟩
abbrev S128x1 : Shape := ⟨2, ![128, 1]⟩
abbrev S128x512 : Shape := ⟨2, ![128, 512]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S512, .f32⟩
  | .hbm, ⟨3, _⟩ => ⟨S512, .f32⟩
  | .hbm, ⟨4, _⟩ => ⟨S128, .i32⟩
  | .hbm, ⟨5, _⟩ => ⟨S50000x1, .i32⟩
  | .hbm, ⟨6, _⟩ => ⟨S1x128, .i32⟩
  | .hbm, ⟨7, _⟩ => ⟨S50000x128, .i32⟩
  | .hbm, ⟨8, _⟩ => ⟨S50000x128, .i32⟩
  | .hbm, ⟨9, _⟩ => ⟨S50000x128, .i1⟩
  | .hbm, ⟨10, _⟩ => ⟨S50000x128x1, .i1⟩
  | .hbm, ⟨11, _⟩ => ⟨S50000x1x256, .f32⟩
  | .hbm, ⟨12, _⟩ => ⟨S_, .f32⟩
  | .hbm, ⟨13, _⟩ => ⟨S_, .f32⟩
  | .hbm, ⟨14, _⟩ => ⟨S50000x128x256, .i1⟩
  | .hbm, ⟨15, _⟩ => ⟨S50000x128x256, .f32⟩
  | .hbm, ⟨16, _⟩ => ⟨S50000x128x256, .f32⟩
  | .hbm, ⟨17, _⟩ => ⟨S50000x128x256, .f32⟩
  | .hbm, ⟨18, _⟩ => ⟨S_, .f32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S50000x1, .i32⟩
  | .hbm, ⟨23, _⟩ => ⟨S128x256, .f32⟩
  | .hbm, ⟨24, _⟩ => ⟨S_, .f32⟩
  | .hbm, ⟨25, _⟩ => ⟨S50000, .f32⟩
  | .hbm, ⟨26, _⟩ => ⟨S_, .f32⟩
  | .hbm, ⟨27, _⟩ => ⟨S128, .f32⟩
  | .hbm, ⟨28, _⟩ => ⟨S50000x1, .i32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128x1, .f32⟩
  | .hbm, ⟨34, _⟩ => ⟨S128x256, .f32⟩
  | .hbm, ⟨35, _⟩ => ⟨S128x256, .f32⟩
  | .hbm, ⟨36, _⟩ => ⟨S128x512, .f32⟩
  | .hbm, ⟨37, _⟩ => ⟨S1x512, .f32⟩
  | .hbm, ⟨38, _⟩ => ⟨S128x512, .f32⟩
  | .hbm, ⟨39, _⟩ => ⟨S128x512, .f32⟩
  | .hbm, ⟨40, _⟩ => ⟨S1x512, .f32⟩
  | .hbm, ⟨41, _⟩ => ⟨S128x512, .f32⟩
  | .hbm, ⟨42, _⟩ => ⟨S128x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Bits.Frames.lean ====
/-
  The frame: of ids as the precondition has them the program runs, leaves its arguments, and leaves every counter at zero.
-/
module

public import proofs.«01_k».proof.Proof.Bits.Main
public import proofs.«01_k».proof.Proof.Bits.Ids
public import proofs.«01_k».proof.Proof.Gen.Pre_sorted_graphs
public import proofs.«01_k».proof.Defs

@[expose] public section

noncomputable section

namespace Cert.Proof.Kernel

open Cert.Kernel Cert.Kernel.Gen
open Idealize.ShloMosaic Idealize.SL.Sem

section Any
variable {F : FTy → Type} [FloatOps F] (m : (ℓ : Loc nD τ sig) → Buf (Elt F) ℓ)

theorem sd_id (d : Dev nD) (R : ℕ) (hR : R < 50000) : idOf (sd m d) R = m ((SparseCore.T d).loc main_arg1) (ValueIdx.ix1 ⟨R, hR⟩) := by
  have e : R % 50016 = R := Nat.mod_eq_of_lt (by omega)
  unfold idOf
  refine (sd_low m d _ (by show R % 50016 < 50000; omega)).trans ?_
  exact congrArg (m ((SparseCore.T d).loc main_arg1)) (funext fun a => by match a with | 0 => exact Fin.ext e)
end Any

theorem pre_ok (m : (ℓ : Loc nD τ sig) → Buf (Elt Bits) ℓ) (h : Cert.Pre_Kernel m) (d : Dev nD) : OkIds (sd m d) :=
  okIds_of _ _ _ _ (sd m d) (sd_id m d) (h d).1

theorem frame : Cert.quiescent_Kernel := fun m g h =>
  (θ_run _ _ _).mono (fun _ q => ⟨fun c => (q.1 c).2, q.2⟩) (run_main m g (pre_ok m h))

end Cert.Proof.Kernel

end
-- ==== Proof.Ideal.Clean.lean ====
/-
  The segment kernel's task written once for all rows: its flush of the running values to one row of the three
  accumulators, its step over one row of a group, and the group's sixteen steps. The printed body unrolls these; that it
  IS the program stated here is proved in Body.lean.
-/
module

public import proofs.«01_k».proof.Defs
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.SL.Sem

variable {F : FTy → Type} [FloatOps F]

/-- What a task of the segment kernel may do, on the tile `i`. -/
abbrev PE (F : FTy → Type) [FloatOps F] (i : grid0.Coords) : Type → Type :=
  TpuEff nD τ sig (Elt F) Λ₀ (.scVector ((i 0).castLE hcore0) ((i 1).castLE hsub0))

/-- The running values: the current segment, its count, and its 256 maxima and sums in sixteen vectors. -/
structure St (F : FTy → Type) where
  cur : BitVec 32
  cnt : FVec F S16 .f32
  mx : Fin 16 → FVec F S16 .f32
  sm : Fin 16 → FVec F S16 .f32

/-- The running values after a row `x` of segment `g`. -/
def St.step (st : St F) (g : BitVec 32) (x : Fin 16 → Vec F S1x16 .f32) : St F where
  cur := g
  cnt := Scalar.select (Scalar.cmpi .ne g st.cur) (k0_pay2721 (F := F)) (addf st.cnt (k0_pay2721 (F := F)))
  mx j := Scalar.select (Scalar.cmpi .ne g st.cur) (shapeCast S16 (x j) shapeCasts_S1x16_S16)
    (maximumf (st.mx j) (shapeCast S16 (x j) shapeCasts_S1x16_S16))
  sm j := Scalar.select (Scalar.cmpi .ne g st.cur) (shapeCast S16 (x j) shapeCasts_S1x16_S16)
    (addf (st.sm j) (shapeCast S16 (x j) shapeCasts_S1x16_S16))

/-- The running values before the first row. -/
def St.init : St F := ⟨4294967295#32, k0_pay2720, fun _ => k0_pay2719, fun _ => k0_pay2720⟩

/-- The loop's tuple of running values. -/
abbrev Tup (F : FTy → Type) : Type :=
  BitVec 32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

def St.tup (st : St F) : Tup F :=
  (st.cur, st.cnt, st.mx 0, st.mx 1, st.mx 2, st.mx 3, st.mx 4, st.mx 5, st.mx 6, st.mx 7, st.mx 8, st.mx 9, st.mx 10, st.mx 11, st.mx 12, st.mx 13, st.mx 14, st.mx 15,
    st.sm 0, st.sm 1, st.sm 2, st.sm 3, st.sm 4, st.sm 5, st.sm 6, st.sm 7, st.sm 8, st.sm 9, st.sm 10, st.sm 11, st.sm 12, st.sm 13, st.sm 14, st.sm 15)

/-- The sixteen pieces of a row. -/
abbrev pieces : List (Fin 16) := [0, 1, 2, 3, 4, 5, 6, 7, 8, 9, 10, 11, 12, 13, 14, 15]

theorem piece_inb (j : Fin 16) : ∀ a, (![16 * j.val] : Fin 1 → Nat) a + S16.size a ≤ S256.size a := by
  intro a; fin_cases a; have := j.isLt; show 16 * j.val + 16 ≤ 256; omega
theorem lane_inb (r j : Fin 16) : ∀ a, (![r.val, 16 * j.val] : Fin 2 → Nat) a + S1x16.size a ≤ S16x256.size a := by
  have := j.isLt; have := r.isLt
  intro a; fin_cases a
  · show r.val + 1 ≤ 16; omega
  · show 16 * j.val + 16 ≤ 256; omega
theorem slices_at (r : Fin 16) : S16.Slices ![r.val] S1 := by
  refine ⟨rfl, fun a => ?_⟩
  have := r.isLt; fin_cases a; show r.val + 1 ≤ 16; omega

/-- The id of row `r` of a group. -/
def idAt (r : Fin 16) (ids : Vec F S16 .i32) : BitVec 32 :=
  extractAt ![0] (extractStridedSlice S1 ![r.val] (shapeCast S16 ids shapeCasts_S16_S16) (slices_at r)) inpos_S1_p0

variable (i : grid0.Coords) (arg2 : Memref sig .scVector .hbm S50000x256 .f32)
  (arg7 : Memref sig .scVector .vmem S1568 .i32) (arg8 : Memref sig .scVector .vmem S16x256 .f32)
  (arg9 : Memref sig .scVector .vmem S128x256 .f32) (arg10 : Memref sig .scVector .vmem S128x256 .f32)
  (arg11 : Memref sig .scVector .vmem S128x16 .f32)

/-- Row `o` of an accumulator, and of the counts. -/
abbrev rowM (a : Memref sig .scVector .vmem S128x256 .f32) (o : Fin 2 → Nat) (h : ∀ a, o a + S1x256.size a ≤ S128x256.size a) :
    Memref sig .scVector .vmem S256 .f32 :=
  (a.slice (Rect.unit (s := S128x256) o S1x256.size h) (fun _ => rfl)).squeeze S256 squeezes_S1x256_S256
abbrev rowC (a : Memref sig .scVector .vmem S128x16 .f32) (o : Fin 2 → Nat) (h : ∀ a, o a + S1x16.size a ≤ S128x16.size a) :
    Memref sig .scVector .vmem S16 .f32 :=
  (a.slice (Rect.unit (s := S128x16) o S1x16.size h) (fun _ => rfl)).squeeze S16 squeezes_S1x16_S16

/-- Piece `j` of a row written. -/
def putPiece (m : Memref sig .scVector .vmem S256 .f32) (j : Fin 16) (v : FVec F S16 .f32) : Prog (PE F i) PUnit := do
  let _ ← Prog.lift (TpuEff.load m (Rect.unit (s := S256) ![16 * j.val] S16.size (piece_inb j)).toLoadRect (View.loadsAt_vmem h_S16))
  Prog.lift (TpuEff.store m (Rect.unit (s := S256) ![16 * j.val] S16.size (piece_inb j)) (shapeCast S16 v shapeCasts_S16_S16) Finset.univ (View.stores_vmem_bits_univ h_S16 rfl) (.inl rfl))

/-- A row of the counts written. -/
def putCnt (m : Memref sig .scVector .vmem S16 .f32) (v : FVec F S16 .f32) : Prog (PE F i) PUnit := do
  let _ ← Prog.lift (TpuEff.load m (Rect.unit (s := S16) ![0] S16.size inb_S16_S16_0).toLoadRect (View.loadsAt_vmem h_S16))
  Prog.lift (TpuEff.store m (Rect.unit (s := S16) ![0] S16.size inb_S16_S16_0) (shapeCast S16 v shapeCasts_S16_S16) Finset.univ (View.stores_vmem_bits_univ h_S16 rfl) (.inl rfl))

/-- The pieces of `l` of a row of the maxima and of the sums, then the row of the counts. -/
def flushL (m9 m10 : Memref sig .scVector .vmem S256 .f32) (m11 : Memref sig .scVector .vmem S16 .f32) (cnt : FVec F S16 .f32)
    (mx sm : Fin 16 → FVec F S16 .f32) : List (Fin 16) → Prog (PE F i) PUnit
  | [] => putCnt i m11 cnt
  | j :: l => do
    putPiece i m9 j (mx j)
    putPiece i m10 j (sm j)
    flushL m9 m10 m11 cnt mx sm l

/-- The running values written to the row of the current segment. -/
def flush (st : St F) (h9 : ∀ a, (k0_off6 st.cur) a + S1x256.size a ≤ S128x256.size a)
    (h11 : ∀ a, (k0_off7 st.cur) a + S1x16.size a ≤ S128x16.size a) : Prog (PE F i) PUnit :=
  flushL i (rowM arg9 (k0_off6 st.cur) h9) (rowM arg10 (k0_off6 st.cur) h9) (rowC arg11 (k0_off7 st.cur) h11) st.cnt st.mx st.sm pieces

/-- One lane vector of a row of the group's buffer. -/
def lane (a : Memref sig .scVector .vmem S16x256 .f32) (r j : Fin 16) : PE F i (S1x16.Idx → Elt F .f32) :=
  TpuEff.load a (Rect.unit (s := S16x256) ![r.val, 16 * j.val] S1x16.size (lane_inb r j)).toLoadRect (View.loadsAt_vmem h_S1x16)

/-- A row of the group's buffer read, lane vector by lane vector. -/
def withRow {γ : Type} (r : Fin 16) (K : (Fin 16 → Vec F S1x16 .f32) → Prog (PE F i) γ) : Prog (PE F i) γ :=
  .op (lane i arg8 r 0) fun x0 => .op (lane i arg8 r 1) fun x1 => .op (lane i arg8 r 2) fun x2 => .op (lane i arg8 r 3) fun x3 =>
  .op (lane i arg8 r 4) fun x4 => .op (lane i arg8 r 5) fun x5 => .op (lane i arg8 r 6) fun x6 => .op (lane i arg8 r 7) fun x7 =>
  .op (lane i arg8 r 8) fun x8 => .op (lane i arg8 r 9) fun x9 => .op (lane i arg8 r 10) fun x10 => .op (lane i arg8 r 11) fun x11 =>
  .op (lane i arg8 r 12) fun x12 => .op (lane i arg8 r 13) fun x13 => .op (lane i arg8 r 14) fun x14 => .op (lane i arg8 r 15) fun x15 =>
  K ![x0, x1, x2, x3, x4, x5, x6, x7, x8, x9, x10, x11, x12, x13, x14, x15]

/-- One row of a group: where its id differs from the current segment the running values are flushed; then they step. -/
def rowP {γ : Type} (r : Fin 16) (ids : Vec F S16 .i32) (st : St F) (K : St F → Prog (PE F i) γ) : Prog (PE F i) γ :=
  .op (TpuEff.assume (k0_chk1 st.cur (idAt r ids)) (k0_chk1.dec st.cur (idAt r ids))) fun (h : PLift _) =>
    (if hc : k0_cond1 st.cur (idAt r ids) = 1#1 then flush i arg9 arg10 arg11 st (h.down.1 hc) (h.down.2 hc) else pure ⟨⟩) >>= fun _ =>
      withRow i arg8 r fun x => K (st.step (idAt r ids) x)

/-- The rows of `l`, in turn. -/
def rowsP {γ : Type} (ids : Vec F S16 .i32) : List (Fin 16) → St F → (St F → Prog (PE F i) γ) → Prog (PE F i) γ
  | [], st, K => K st
  | r :: l, st, K => rowP i arg8 arg9 arg10 arg11 r ids st fun st' => rowsP ids l st' K

/-- One group: its rows fetched, its ids read, its rows run. -/
def groupP (h8 : arg8.IsWhole) (sem : DmaSems sig S_) (t : Fin (k0_t2_loop i).trips) (st : St F) : Prog (PE F i) (Tup F) :=
  .op (TpuEff.enqueueDma (arg2.slice (Rect.unit (s := S50000x256) (k0_off4 i t) S16x256.size (k0_off4_inb i t)) (fun _ => rfl)) (.here arg8) (.dma sem.sem)
      (View.wordExact_bits rfl) h8.wordExact ⟨Or.inl rfl, trivial⟩) fun _ =>
  .op (TpuEff.waitDma2 sem.sem (arg2.slice (Rect.unit (s := S50000x256) (k0_off4 i t) S16x256.size (k0_off4_inb i t)) (fun _ => rfl)) arg8
      (View.wordExact_bits rfl) h8.wordExact) fun _ =>
  .op (TpuEff.load arg7 (Rect.unit (s := S1568) (k0_off5 i t) S16.size (k0_off5_inb i t)).toLoadRect (View.loadsAt_vmem h_S16)) fun ids =>
  rowsP i arg8 arg9 arg10 arg11 ids pieces st fun st' => pure st'.tup

end Cert.Proof.KernelIdeal
-- ==== Proof.Ideal.Task.lean ====
/-
  The segment kernel's whole task written over the clean pieces of Clean.lean: its ids fetched, its accumulators
  initialised row by row, its groups run, the last running values flushed, the three accumulators copied out. The loop
  over the rows left over makes no trip and is left out here.
-/
module

public import proofs.«01_k».proof.Proof.Ideal.Clean

@[expose] public section

noncomputable section

namespace Cert.Proof.KernelIdeal

open Cert.KernelIdeal Cert.KernelIdeal.Gen
open Idealize.ShloMosaic Idealize.SL.Sem

variable {F : FTy → Type} [FloatOps F]

/-- The running values of a tuple. -/
def ofTup (u : Tup F) : St F where
  cur := u.1
  cnt := u.2.1
  mx := ![u.2.2.1, u.2.2.2.1, u.2.2.2.2.1, u.2.2.2.2.2.1, u.2.2.2.2.2.2.1, u.2.2.2.2.2.2.2.1, u.2.2.2.2.2.2.2.2.1, u.2.2.2.2.2.2.2.2.2.1,
    u.2.2.2.2.2.2.2.2.2.2.1, u.2.2.2.2.2.2.2.2.2.2.2.1, u.2.2.2.2.2.2.2.2.2.2.2.2.1, u.2.2.2.2.2.2.2.2.2.2.2.2.2.1, u.2.2.2.2.2.2.2.2.2.2.2.2.2.2.1,
    u.2.2.2.2.2.2.2.2.2.2.2.2.2.2.2.1, u.2.2.2.2.2.2.2.2.2.2.2.2.2.2.2.2.1, u.2.2.2.2.2.2.2.2.2.2.2.2.2.2.2.2.2.1]
  sm :=
    let w := u.2.2.2.2.2.2.2.2.2.2.2.2.2.2.2.2.2.2
    ![w.1, w.2.1, w.2.2.1, w.2.2.2.1, w.2.2.2.2.1, w.2.2.2.2.2.1, w.2.2.2.2.2.2.1, w.2.2.2.2.2.2.2.1, w.2.2.2.2.2.2.2.2.1, w.2.2.2.2.2.2.2.2.2.1,
      w.2.2.2.2.2.2.2.2.2.2.1, w.2.2.2.2.2.2.2.2.2.2.2.1, w.2.2.2.2.2.2.2.2.2.2.2.2.1, w.2.2.2.2.2.2.2.2.2.2.2.2.2.1, w.2.2.2.2.2.2.2.2.2.2.2.2.2.2.1,
      w.2.2.2.2.2.2.2.2.2.2.2.2.2.2.2]

theorem tup_ofTup (u : Tup F) : (ofTup u).tup = u := rfl

theorem ofTup_tup (st : St F) : ofTup st.tup = st := by
  obtain ⟨cur, cnt, mx, sm⟩ := st
  have e : ∀ f : Fin 16 → FVec F S16 .f32,
      ![f 0, f 1, f 2, f 3, f 4, f 5, f 6, f 7, f 8, f 9, f 10, f 11, f 12, f 13, f 14, f 15] = f := by
    intro f; funext j; fin_cases j <;> rfl
  exact congrArg₂ (St.mk cur cnt) (e mx) (e sm)

variable (i : grid0.Coords) (arg2 : Memref sig .scVector .hbm S50000x256 .f32) (harg2 : arg2.IsWhole) (arg3 : Memref sig .scVector .hbm S50016 .i32) (harg3 : arg3.IsWhole) (arg4 : Memref sig .scVector .hbm S32x128x256 .f32) (harg4 : arg4.IsWhole) (arg5 : Memref sig .scVector .hbm S32x128x256 .f32) (harg5 : arg5.IsWhole) (arg6 : Memref sig .scVector .hbm S32x128x16 .f32) (harg6 : arg6.IsWhole) (arg7 : Memref sig .scVector .vmem S1568 .i32) (harg7 : arg7.IsWhole) (arg8 : Memref sig .scVector .vmem S16x256 .f32) (harg8 : arg8.IsWhole) (arg9 : Memref sig .scVector .vmem S128x256 .f32) (harg9 : arg9.IsWhole) (arg10 : Memref sig .scVector .vmem S128x256 .f32) (harg10 : arg10.IsWhole) (arg11 : Memref sig .scVector .vmem S128x16 .f32) (harg11 : arg11.IsWhole)
  (v186_r0 : DmaSems sig S_) (v2128_r1 : DmaSems sig S_) (v2128_r2 : DmaSems sig S_) (v186_r3 : DmaSems sig S_) (v186_r4 : DmaSems sig S_) (v186_r5 : DmaSems sig S_)

/-- Row `t` of the accumulators initialised. -/
def initRow (t : Fin k0_t1_loop.trips) : Prog (PE F i) PUnit :=
  flushL i (rowM arg9 (k0_off2 t) (k0_off2_inb t)) (rowM arg10 (k0_off2 t) (k0_off2_inb t)) (rowC arg11 (k0_off3 t) (k0_off3_inb t))
    k0_pay2720 (fun _ => k0_pay2719) (fun _ => k0_pay2720) pieces

/-- The tile's block of an array of partial maxima or sums, and of counts. -/
abbrev outM (a : Memref sig .scVector .hbm S32x128x256 .f32) : Memref sig .scVector .hbm S128x256 .f32 :=
  (a.slice (Rect.unit (s := S32x128x256) (k0_off74 i) S1x128x256.size (k0_off74_inb i)) (fun _ => rfl)).squeeze S128x256 squeezes_S1x128x256_S128x256
abbrev outC (a : Memref sig .scVector .hbm S32x128x16 .f32) : Memref sig .scVector .hbm S128x16 .f32 :=
  (a.slice (Rect.unit (s := S32x128x16) (k0_off75 i) S1x128x16.size (k0_off75_inb i)) (fun _ => rfl)).squeeze S128x16 squeezes_S1x128x16_S128x16

/-- The accumulators copied out. -/
def outP : Prog (PE F i) PUnit :=
  .op (TpuEff.enqueueDma arg9 (.here (outM i arg4)) (.dma v186_r3.sem) harg9.wordExact ((View.wordExact_bits rfl).reshape _ _) ⟨Or.inl rfl, trivial⟩) fun _ =>
  .op (TpuEff.waitDma2 v186_r3.sem arg9 (outM i arg4) harg9.wordExact ((View.wordExact_bits rfl).reshape _ _)) fun _ =>
  .op (TpuEff.enqueueDma arg10 (.here (outM i arg5)) (.dma v186_r4.sem) harg10.wordExact ((View.wordExact_bits rfl).reshape _ _) ⟨Or.inl rfl, trivial⟩) fun _ =>
  .op (TpuEff.waitDma2 v186_r4.sem arg10 (outM i arg5) harg10.wordExact ((View.wordExact_bits rfl).reshape _ _)) fun _ =>
  .op (TpuEff.enqueueDma arg11 (.here (outC i arg6)) (.dma v186_r5.sem) harg11.wordExact ((View.wordExact_bits rfl).reshape _ _) ⟨Or.inl rfl, trivial⟩) fun _ =>
  .op (TpuEff.waitDma2 v186_r5.sem arg11 (outC i arg6) harg11.wordExact ((View.wordExact_bits rfl).reshape _ _)) fun _ =>
  pure ⟨⟩

/-- The last running values flushed and the accumulators copied out. -/
def lastP (u : Tup F) : Prog (PE F i) PUnit :=
  .op (TpuEff.assume (k0_chk33 u.1) (k0_chk33.dec u.1)) fun (h : PLift _) =>
  flushL i (rowM arg9 (k0_off72 u.1) h.down.1) (rowM arg10 (k0_off72 u.1) h.down.1) (rowC arg11 (k0_off73 u.1) h.down.2)
    (ofTup u).cnt (ofTup u).mx (ofTup u).sm pieces >>= fun _ =>
  outP i arg4 arg5 arg6 arg9 harg9 arg10 harg10 arg11 harg11 v186_r3 v186_r4 v186_r5

/-- The tile's task. -/
def tileP : Prog (PE F i) PUnit :=
  .op (TpuEff.enqueueDma (arg3.slice (Rect.unit (s := S50016) (k0_off1 i) S1568.size (k0_off1_inb i)) (fun _ => rfl)) (.here arg7) (.dma v186_r0.sem)
      (View.wordExact_bits rfl) harg7.wordExact ⟨Or.inl rfl, trivial⟩) fun _ =>
  .op (TpuEff.waitDma2 v186_r0.sem (arg3.slice (Rect.unit (s := S50016) (k0_off1 i) S1568.size (k0_off1_inb i)) (fun _ => rfl)) arg7
      (View.wordExact_bits rfl) harg7.wordExact) fun _ =>
  Scf.Loop.for k0_t1_loop k0_t1_ok PUnit.unit (fun t _ => initRow i arg9 arg10 arg11 t) >>= fun _ =>
  Scf.Loop.for (k0_t2_loop i) (k0_t2_ok i) (St.init (F := F)).tup (fun t u => groupP i arg2 arg7 arg8 arg9 arg10 arg11 harg8 v2128_r1 t (ofTup u)) >>= fun u =>
  lastP i arg4 arg5 arg6 arg9 harg9 arg10 harg10 arg11 harg11 v186_r3 v186_r4 v186_r5 u

end Cert.Proof.KernelIdeal
-- ==== Proof.Ideal.Model.lean ====
/-
  What one tile computes, as a pure function: its running values and the contents of its three accumulators after any
  number of its rows.
-/
module

public import proofs.«01_k».proof.Proof.Ideal.Clean
public import Idealize.ShloMosaic.Lib.ValueIdx
public import Idealize.ShloMosaic.Lib.WholeRead

@[expose] public section

noncomputable section

namespace Cert.Proof.KernelIdeal

open Cert.KernelIdeal Cert.KernelIdeal.Gen
open Idealize.ShloMosaic Idealize.SL.Sem
open Idealize.ShloMosaic.ValueIdx (ix1 ix2)

variable {F : FTy → Type} [FloatOps F]

abbrev AccM (F : FTy → Type) [FloatOps F] : Type := S128x256.Idx → Elt F .f32
abbrev AccC (F : FTy → Type) [FloatOps F] : Type := S128x16.Idx → Elt F .f32

/-- The piece a column lies in, and its place there. -/
def pc (y : S128x256.Idx) : Fin 16 := ⟨(y 1).val / 16, by have h : (y 1).val < 256 := (y 1).isLt; omega⟩
def pl (y : S128x256.Idx) : Fin 16 := ⟨(y 1).val % 16, Nat.mod_lt _ (by decide)⟩

/-- The pieces `l` of row `g` replaced. -/
def putPart (A : AccM F) (g : ℕ) (l : List (Fin 16)) (v : Fin 16 → FVec F S16 .f32) : AccM F := fun y =>
  if (y 0).val = g ∧ pc y ∈ l then v (pc y) (ix1 (pl y)) else A y
/-- Row `g` replaced. -/
def putRow (A : AccM F) (g : ℕ) (v : Fin 16 → FVec F S16 .f32) : AccM F := fun y =>
  if (y 0).val = g then v (pc y) (ix1 (pl y)) else A y
/-- Row `g` of the counts replaced. -/
def putC (A : AccC F) (g : ℕ) (v : FVec F S16 .f32) : AccC F := fun y =>
  if (y 0).val = g then v (ix1 (y 1)) else A y

theorem putPart_nil (A : AccM F) (g : ℕ) (v : Fin 16 → FVec F S16 .f32) : putPart A g [] v = A := by
  funext y; simp [putPart]
theorem putPart_cons (A : AccM F) (g : ℕ) (j : Fin 16) (l : List (Fin 16)) (v : Fin 16 → FVec F S16 .f32) :
    putPart (putPart A g [j] fun _ => v j) g l v = putPart A g (j :: l) v := by
  funext y
  unfold putPart
  by_cases h0 : (y 0).val = g <;> by_cases hl : pc y ∈ l <;> by_cases hj : pc y = j <;> simp [h0, hl, hj]
theorem putPart_pieces (A : AccM F) (g : ℕ) (v : Fin 16 → FVec F S16 .f32) : putPart A g pieces v = putRow A g v := by
  funext y
  have : ∀ p : Fin 16, p ∈ pieces := by decide
  simp [putPart, putRow, this (pc y)]

/-- A tile's running values and accumulators. -/
structure TS (F : FTy → Type) [FloatOps F] where
  st : St F
  M : AccM F
  A : AccM F
  C : AccC F

/-- The row the running values are flushed to. -/
def rowOf (cur : BitVec 32) : ℕ := (Scalar.maxsi cur 0#32).toNat

def TS.flush (T : TS F) : TS F :=
  ⟨T.st, putRow T.M (rowOf T.st.cur) T.st.mx, putRow T.A (rowOf T.st.cur) T.st.sm, putC T.C (rowOf T.st.cur) T.st.cnt⟩

def TS.step (T : TS F) (g : BitVec 32) (x : Fin 16 → Vec F S1x16 .f32) : TS F :=
  if k0_cond1 T.st.cur g = 1#1 then ⟨T.st.step g x, T.flush.M, T.flush.A, T.flush.C⟩ else ⟨T.st.step g x, T.M, T.A, T.C⟩

theorem TS.step_st (T : TS F) (g : BitVec 32) (x : Fin 16 → Vec F S1x16 .f32) : (T.step g x).st = T.st.step g x := by
  unfold TS.step; split <;> rfl

def TS.init : TS F :=
  ⟨St.init, fun y => k0_pay2719 (ix1 (pl y)), fun y => k0_pay2720 (ix1 (pl y)), fun y => k0_pay2720 (ix1 (y 1))⟩

/-- The id of row `R`, and the row's sixteen lane vectors. -/
def idOf (s : S50016.Idx → BitVec 32) (R : ℕ) : BitVec 32 := s (ix1 ⟨R % 50016, Nat.mod_lt _ (by decide)⟩)
def xOf (n : S50000x256.Idx → Elt F .f32) (R : ℕ) : Fin 16 → Vec F S1x16 .f32 := fun j y =>
  n (ix2 ⟨R % 50000, Nat.mod_lt _ (by decide)⟩ ⟨16 * j.val + (y 1).val, by have h : (y 1).val < 16 := (y 1).isLt; have := j.isLt; omega⟩)

/-- A tile after `m` rows from row `R`. -/
def runT (n : S50000x256.Idx → Elt F .f32) (s : S50016.Idx → BitVec 32) (R : ℕ) : ℕ → TS F
  | 0 => TS.init
  | m + 1 => (runT n s R m).step (idOf s (R + m)) (xOf n (R + m))

/-- The first row of tile `w`, and how many it has. -/
def baseOf (w : ℕ) : ℕ := 16 * (97 * w + min w 21)
def groupsOf (w : ℕ) : ℕ := 97 + if w < 21 then 1 else 0

/-- What tile `w` leaves in its accumulators. -/
def finT (n : S50000x256.Idx → Elt F .f32) (s : S50016.Idx → BitVec 32) (w : ℕ) : TS F :=
  (runT n s (baseOf w) (16 * groupsOf w)).flush

/-- A current segment is one of the graphs, or none yet. -/
def OkCur (c : BitVec 32) : Prop := c = 4294967295#32 ∨ c.toNat < 128

theorem rowOf_eq {c : BitVec 32} (h : c.toNat < 128) : rowOf c = c.toNat := by
  have h1 : c.toInt = c.toNat := by rw [BitVec.toInt_eq_toNat_of_lt]; omega
  have h2 : c.slt 0#32 = false := by
    rw [BitVec.slt_eq_decide, h1]; simp
  unfold rowOf Scalar.maxsi IntOp.maxsi
  cases h3 : (0#32).slt c
  · have : c.toNat = 0 := by
      rw [BitVec.slt_eq_decide, h1] at h3
      simpa using h3
    simp [this]
  · simp
theorem rowOf_lt {c : BitVec 32} (h : OkCur c) : rowOf c < 128 := by
  rcases h with rfl | h
  · decide
  · rw [rowOf_eq h]; exact h

end Cert.Proof.KernelIdeal
-- ==== Proof.Ideal.Base.lean ====
/-
  The program as the launch theorem sees it, and the resource algebra: the handshakes' rounds, the TensorCore region's
  rounds, the transfers' counters.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Ideal.Task
public import proofs.«01_k».proof.Proof.Ideal.Model
public import proofs.«01_k».proof.Proof.Gen.KernelIdeal.Launch

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) Unit
abbrev UU : Type := UH × (UB × Counters)

abbrev MM (F : FTy → Type) [FloatOps F] : Type := MT nD τ sig (HIx 1) (Elt F) ℕ UU ℕ

abbrev EH : Emb UH (MM F) := embL
def EB : Emb UB (MM F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MM F)).LandsIn (upEmb : UEmb _ (MM F)) := by unfold EB; infer_instance

end Cert.Proof.KernelIdeal
-- ==== Proof.Ideal.Rows.lean ====
/-
  The pieces of the tile's program run: a row of the accumulators written, a row of a group stepped, a group's sixteen
  rows, each with the contents it leaves.
-/
module

public import proofs.«01_k».proof.Proof.Ideal.Base

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MM F

/-! ## What a piece's store leaves -/

theorem rowM_emb (a : Memref sig .scVector .vmem S128x256 .f32) (g : ℕ) (ho) (j : Fin 16) (x : S16.Idx) :
    ((rowM a ![g, 0] ho).access (Rect.unit (s := S256) ![16 * j.val] S16.size (piece_inb j))).emb x
      = a.view.emb (ix2 ⟨g, by have := ho 0; show g < 128; exact this⟩ ⟨16 * j.val + (x 0).val, by have h : (x 0).val < 16 := (x 0).isLt; have := j.isLt; omega⟩) := by
  show a.view.emb ((Rect.unit (s := S128x256) ![g, 0] S1x256.size ho).emb (Shape.reshapeEquiv _ ((Rect.unit (s := S256) ![16 * j.val] S16.size (piece_inb j)).emb x))) = _
  rw [Shape.reshapeEquiv_cons_one]
  congr 1
  funext b
  apply Fin.ext
  match b with
  | 0 => show g + 1 * 0 = g; omega
  | 1 => show 0 + 1 * (16 * j.val + 1 * (x 0).val) = 16 * j.val + (x 0).val; omega

theorem putPiece_write (a : Memref sig .scVector .vmem S128x256 .f32) (h : a.IsWhole) (A : AccM F) (g : ℕ) (ho) (j : Fin 16) (w : FVec F S16 .f32) :
    ((rowM a ![g, 0] ho).access (Rect.unit (s := S256) ![16 * j.val] S16.size (piece_inb j))).write (Elt F) (h.unread A) w Finset.univ
      = h.unread (putPart A g [j] fun _ => w) := by
  apply h.eq_unread
  funext y
  rw [View.read_apply]
  by_cases hy : (y 0).val = g ∧ pc y = j
  · have e : a.view.emb y = ((rowM a ![g, 0] ho).access (Rect.unit (s := S256) ![16 * j.val] S16.size (piece_inb j))).emb (ix1 (pl y)) := by
      rw [rowM_emb]
      congr 1
      have h1 : (y 1).val / 16 = j.val := congrArg Fin.val hy.2
      funext b; apply Fin.ext
      match b with
      | 0 => exact hy.1
      | 1 => show (y 1).val = 16 * j.val + (y 1).val % 16; omega
    rw [e, View.write_emb_of_mem _ _ (Finset.mem_univ _)]
    simp [putPart, hy]
  · rw [View.write_of_not_mem]
    · have e := congrFun (h.read_unread (Val := Elt F) A) y
      rw [View.read_apply] at e
      rw [e]
      simp only [putPart, List.mem_singleton]
      rw [if_neg hy]
    · intro hm
      obtain ⟨x, -, hx⟩ := Finset.mem_map.mp hm
      rw [rowM_emb] at hx
      have := a.view.emb.injective hx
      apply hy
      subst this
      refine ⟨rfl, Fin.ext ?_⟩
      have h : (x 0).val < 16 := (x 0).isLt
      show (16 * j.val + (x 0).val) / 16 = j.val
      omega

theorem putCnt_write (a : Memref sig .scVector .vmem S128x16 .f32) (h : a.IsWhole) (A : AccC F) (g : ℕ) (ho) (w : FVec F S16 .f32) :
    ((rowC a ![g, 0] ho).access (Rect.unit (s := S16) ![0] S16.size inb_S16_S16_0)).write (Elt F) (h.unread A) w Finset.univ
      = h.unread (putC A g w) := by
  have emb : ∀ x : S16.Idx, ((rowC a ![g, 0] ho).access (Rect.unit (s := S16) ![0] S16.size inb_S16_S16_0)).emb x
      = a.view.emb (ix2 ⟨g, by have := ho 0; show g < 128; exact this⟩ ⟨(x 0).val, (x 0).isLt⟩) := by
    intro x
    show a.view.emb ((Rect.unit (s := S128x16) ![g, 0] S1x16.size ho).emb (Shape.reshapeEquiv _ ((Rect.unit (s := S16) ![0] S16.size inb_S16_S16_0).emb x))) = _
    rw [Shape.reshapeEquiv_cons_one]
    congr 1
    funext b
    apply Fin.ext
    match b with
    | 0 => show g + 1 * 0 = g; omega
    | 1 => show 0 + 1 * (0 + 1 * (x 0).val) = (x 0).val; omega
  apply h.eq_unread
  funext y
  rw [View.read_apply]
  by_cases hy : (y 0).val = g
  · have e : a.view.emb y = ((rowC a ![g, 0] ho).access (Rect.unit (s := S16) ![0] S16.size inb_S16_S16_0)).emb (ix1 (y 1)) := by
      rw [emb]
      congr 1
      funext b; apply Fin.ext
      match b with
      | 0 => exact hy
      | 1 => rfl
    rw [e, View.write_emb_of_mem _ _ (Finset.mem_univ _)]
    simp [putC, hy]
  · rw [View.write_of_not_mem]
    · have e := congrFun (h.read_unread (Val := Elt F) A) y
      rw [View.read_apply] at e
      rw [e]
      simp only [putC]
      rw [if_neg hy]
    · intro hm
      obtain ⟨x, -, hx⟩ := Finset.mem_map.mp hm
      rw [emb] at hx
      have := a.view.emb.injective hx
      apply hy
      subst this
      rfl

theorem shapeCast_self (v : FVec F S16 .f32) : shapeCast S16 v shapeCasts_S16_S16 = v := by
  funext x
  show v (Shape.reshapeEquiv _ x) = v x
  congr 1
  exact Shape.reshapeEquiv_self _ x

/-! ## The steps -/

section Run

variable (d : Dev nD) (i : grid0.Coords)
abbrev cV (i : grid0.Coords) : Fin τ.nSC := (i 0).castLE hcore0
abbrev jV (i : grid0.Coords) : Fin τ.nSub := (i 1).castLE hsub0

variable (arg7 : Memref sig .scVector .vmem S1568 .i32) (h7 : arg7.IsWhole) (arg8 : Memref sig .scVector .vmem S16x256 .f32) (h8 : arg8.IsWhole)
  (arg9 : Memref sig .scVector .vmem S128x256 .f32) (h9 : arg9.IsWhole) (arg10 : Memref sig .scVector .vmem S128x256 .f32) (h10 : arg10.IsWhole)
  (arg11 : Memref sig .scVector .vmem S128x16 .f32) (h11 : arg11.IsWhole)

/-- A memref of the tile held whole, reading `A`. -/
def holds {sp : Space} {s : Shape} {e : EltTy} (d : Dev nD) (i : grid0.Coords) (a : Memref sig .scVector sp s e) (h : a.IsWhole) (A : s.Idx → Elt F e) : sProp 𝕄 :=
  a.view.loc (V d (cV i) (jV i)) ↦{fullShare} h.unread A

abbrev wpT (d : Dev nD) (i : grid0.Coords) {α : Type} (p : Prog (PE F i) α) (Q : α → sProp 𝕄) : sProp 𝕄 :=
  wp frame (wpE (defs₀ (F := F)) 𝒱₀ (V d (cV i) (jV i)) none) Set.univ p Q

theorem wp_putPiece (a : Memref sig .scVector .vmem S128x256 .f32) (h : a.IsWhole) (A : AccM F) (o : Fin 2 → ℕ) (ho) (g : ℕ) (eo : o = ![g, 0]) (j : Fin 16) (v : FVec F S16 .f32)
    {α : Type} (k : PUnit → Prog (PE F i) α) (Q : α → sProp 𝕄) :
    iprop(holds d i a h A ∗ (holds d i a h (putPart A g [j] fun _ => v) -∗ wpT d i (k ⟨⟩) Q))
      ⊢ wpT d i (putPiece i (rowM a o ho) j v >>= k) Q := by
  subst eo
  unfold holds
  change _ ⊢ wpT d i (Prog.op _ fun _ => Prog.op _ fun u => k u) Q
  iintro ⟨Ha, Hk⟩
  iapply (wp_load 𝒱₀ (V d (cV i) (jV i)) none Set.univ (m := rowM a ![g, 0] ho) (S := Finset.univ) (q := fullShare) (f := h.unread A) (Finset.subset_univ _)) $$ Ha
  iintro Ha
  iapply (wp_store 𝒱₀ (V d (cV i) (jV i)) none Set.univ (m := rowM a ![g, 0] ho) (r := Rect.unit (s := S256) ![16 * j.val] S16.size (piece_inb j)) (S := Finset.univ) (f := h.unread A) (Finset.subset_univ _)) $$ Ha
  iintro Ha
  iapply Hk
  rw [shapeCast_self]
  ihave Ha := (Entails.of_eq (congrArg (fun f => (a.view.loc (V d (cV i) (jV i)) ↦{fullShare} f : sProp 𝕄)) (putPiece_write a h A g ho j v))) $$ Ha
  iexact Ha

theorem wp_putCnt (a : Memref sig .scVector .vmem S128x16 .f32) (h : a.IsWhole) (A : AccC F) (o : Fin 2 → ℕ) (ho) (g : ℕ) (eo : o = ![g, 0]) (v : FVec F S16 .f32)
    {α : Type} (k : PUnit → Prog (PE F i) α) (Q : α → sProp 𝕄) :
    iprop(holds d i a h A ∗ (holds d i a h (putC A g v) -∗ wpT d i (k ⟨⟩) Q))
      ⊢ wpT d i (putCnt i (rowC a o ho) v >>= k) Q := by
  subst eo
  unfold holds
  change _ ⊢ wpT d i (Prog.op _ fun _ => Prog.op _ fun u => k u) Q
  iintro ⟨Ha, Hk⟩
  iapply (wp_load 𝒱₀ (V d (cV i) (jV i)) none Set.univ (m := rowC a ![g, 0] ho) (S := Finset.univ) (q := fullShare) (f := h.unread A) (Finset.subset_univ _)) $$ Ha
  iintro Ha
  iapply (wp_store 𝒱₀ (V d (cV i) (jV i)) none Set.univ (m := rowC a ![g, 0] ho) (r := Rect.unit (s := S16) ![0] S16.size inb_S16_S16_0) (S := Finset.univ) (f := h.unread A) (Finset.subset_univ _)) $$ Ha
  iintro Ha
  iapply Hk
  rw [shapeCast_self]
  ihave Ha := (Entails.of_eq (congrArg (fun f => (a.view.loc (V d (cV i) (jV i)) ↦{fullShare} f : sProp 𝕄)) (putCnt_write a h A g ho v))) $$ Ha
  iexact Ha

include h9 h10 h11 in
theorem wp_flushL (o : Fin 2 → ℕ) (ho) (o' : Fin 2 → ℕ) (ho') (g : ℕ) (eo : o = ![g, 0]) (eo' : o' = ![g, 0]) (cnt : FVec F S16 .f32) (mx sm : Fin 16 → FVec F S16 .f32)
    {α : Type} (k : PUnit → Prog (PE F i) α) (Q : α → sProp 𝕄) (l : List (Fin 16)) : ∀ (A9 A10 : AccM F) (A11 : AccC F),
    iprop(holds d i arg9 h9 A9 ∗ holds d i arg10 h10 A10 ∗ holds d i arg11 h11 A11
        ∗ (holds d i arg9 h9 (putPart A9 g l mx) ∗ holds d i arg10 h10 (putPart A10 g l sm) ∗ holds d i arg11 h11 (putC A11 g cnt) -∗ wpT d i (k ⟨⟩) Q))
      ⊢ wpT d i (flushL i (rowM arg9 o ho) (rowM arg10 o ho) (rowC arg11 o' ho') cnt mx sm l >>= k) Q := by
  induction l with
  | nil =>
    intro A9 A10 A11
    rw [putPart_nil, putPart_nil]
    change _ ⊢ wpT d i (putCnt i _ cnt >>= k) Q
    iintro ⟨H9, H10, H11, Hk⟩
    iapply (wp_putCnt d i arg11 h11 A11 o' ho' g eo' cnt k Q)
    isplitl [H11]; · iexact H11
    iintro H11
    iapply Hk
    isplitl [H9]; · iexact H9
    isplitl [H10]; · iexact H10
    iexact H11
  | cons j l ih =>
    intro A9 A10 A11
    change _ ⊢ wpT d i ((putPiece i _ j (mx j) >>= fun _ => (putPiece i _ j (sm j) >>= fun _ => flushL i _ _ _ cnt mx sm l)) >>= k) Q
    rw [Prog.bind_assoc]
    iintro ⟨H9, H10, H11, Hk⟩
    iapply (wp_putPiece d i arg9 h9 A9 o ho g eo j (mx j) _ Q)
    isplitl [H9]; · iexact H9
    iintro H9
    rw [Prog.bind_assoc]
    iapply (wp_putPiece d i arg10 h10 A10 o ho g eo j (sm j) _ Q)
    isplitl [H10]; · iexact H10
    iintro H10
    iapply (ih (putPart A9 g [j] fun _ => mx j) (putPart A10 g [j] fun _ => sm j) A11)
    rw [putPart_cons, putPart_cons]
    isplitl [H9]; · iexact H9
    isplitl [H10]; · iexact H10
    isplitl [H11]; · iexact H11
    iexact Hk

/-- The three accumulators held at a state's contents. -/
def accs (d : Dev nD) (i : grid0.Coords) (T : TS F) : sProp 𝕄 :=
  iprop(holds d i arg9 h9 T.M ∗ holds d i arg10 h10 T.A ∗ holds d i arg11 h11 T.C)

theorem wp_flushT (T : TS F) (o : Fin 2 → ℕ) (ho) (o' : Fin 2 → ℕ) (ho') (eo : o = ![rowOf T.st.cur, 0]) (eo' : o' = ![rowOf T.st.cur, 0])
    {α : Type} (k : PUnit → Prog (PE F i) α) (Q : α → sProp 𝕄) :
    iprop(accs arg9 h9 arg10 h10 arg11 h11 d i T ∗ (accs arg9 h9 arg10 h10 arg11 h11 d i T.flush -∗ wpT d i (k ⟨⟩) Q))
      ⊢ wpT d i (flushL i (rowM arg9 o ho) (rowM arg10 o ho) (rowC arg11 o' ho') T.st.cnt T.st.mx T.st.sm pieces >>= k) Q := by
  unfold accs
  iintro ⟨⟨H9, H10, H11⟩, Hk⟩
  iapply (wp_flushL d i arg9 h9 arg10 h10 arg11 h11 o ho o' ho' (rowOf T.st.cur) eo eo' T.st.cnt T.st.mx T.st.sm k Q pieces T.M T.A T.C)
  isplitl [H9]; · iexact H9
  isplitl [H10]; · iexact H10
  isplitl [H11]; · iexact H11
  rw [putPart_pieces, putPart_pieces]
  iexact Hk

/-- The lanes of a row of a group's contents. -/
def lanes (X : S16x256.Idx → Elt F .f32) (r : Fin 16) : Fin 16 → Vec F S1x16 .f32 := fun j y =>
  X (ix2 r ⟨16 * j.val + (y 1).val, by have h : (y 1).val < 16 := (y 1).isLt; have := j.isLt; omega⟩)

theorem lane_read (X : S16x256.Idx → Elt F .f32) (r j : Fin 16) :
    View.readAt (Elt F) arg8.view (Rect.unit (s := S16x256) ![r.val, 16 * j.val] S1x16.size (lane_inb r j)).toLoadRect (h8.unread X) = lanes X r j := by
  funext y
  rw [h8.readAt_unread]
  unfold lanes
  congr 1
  funext b; apply Fin.ext
  match b with
  | 0 => show r.val + 1 * (y 0).val = r.val; have h : (y 0).val < 1 := (y 0).isLt; omega
  | 1 => show 16 * j.val + 1 * (y 1).val = 16 * j.val + (y 1).val; omega

theorem wp_lane (X : S16x256.Idx → Elt F .f32) (r j : Fin 16) {α : Type} (k : Vec F S1x16 .f32 → Prog (PE F i) α) (Q : α → sProp 𝕄) :
    iprop(holds d i arg8 h8 X ∗ (holds d i arg8 h8 X -∗ wpT d i (k (lanes X r j)) Q)) ⊢ wpT d i (Prog.op (lane i arg8 r j) k) Q := by
  unfold holds
  iintro ⟨H, Hk⟩
  iapply (wp_load 𝒱₀ (V d (cV i) (jV i)) none Set.univ (m := arg8) (S := Finset.univ) (q := fullShare) (f := h8.unread X) (Finset.subset_univ _)) $$ H
  rw [lane_read]
  iexact Hk

theorem wp_withRow (X : S16x256.Idx → Elt F .f32) (r : Fin 16) {α : Type} (k : (Fin 16 → Vec F S1x16 .f32) → Prog (PE F i) α) (Q : α → sProp 𝕄) :
    iprop(holds d i arg8 h8 X ∗ (holds d i arg8 h8 X -∗ wpT d i (k (lanes X r)) Q)) ⊢ wpT d i (withRow i arg8 r k) Q := by
  have e : ∀ f : Fin 16 → Vec F S1x16 .f32,
      ![f 0, f 1, f 2, f 3, f 4, f 5, f 6, f 7, f 8, f 9, f 10, f 11, f 12, f 13, f 14, f 15] = f := by
    intro f; funext j; fin_cases j <;> rfl
  rw [← e (lanes X r)]
  unfold withRow
  iintro ⟨H, Hk⟩
  iterate 16
    iapply (wp_lane d i arg8 h8 X r _ _ Q)
    isplitl [H]; · iexact H
    iintro H
  iapply Hk
  iexact H

theorem chk1_of {c g : BitVec 32} (h : OkCur c) : k0_chk1 c g := by
  have := rowOf_lt h
  refine ⟨fun _ a => ?_, fun _ a => ?_⟩
  · match a with
    | 0 => show rowOf c + 1 ≤ 128; omega
    | 1 => show 0 + 256 ≤ 256; omega
  · match a with
    | 0 => show rowOf c + 1 ≤ 128; omega
    | 1 => show 0 + 16 ≤ 16; omega

theorem chk33_of {c : BitVec 32} (h : OkCur c) : k0_chk33 c := by
  have := rowOf_lt h
  refine ⟨fun a => ?_, fun a => ?_⟩
  · match a with
    | 0 => show rowOf c + 1 ≤ 128; omega
    | 1 => show 0 + 256 ≤ 256; omega
  · match a with
    | 0 => show rowOf c + 1 ≤ 128; omega
    | 1 => show 0 + 16 ≤ 16; omega

theorem idAt_eq (r : Fin 16) (ids : Vec F S16 .i32) : idAt r ids = ids (ix1 r) := by
  unfold idAt
  show shapeCast S16 ids _ _ = _
  show ids (Shape.reshapeEquiv _ _) = _
  rw [Shape.reshapeEquiv_self]
  congr 1
  funext b; apply Fin.ext
  match b with
  | 0 => rfl

theorem pure_unit_bind {E : Type → Type} {α : Type} (f : PUnit → Prog E α) : ((pure ⟨⟩ : Prog E PUnit) >>= f) = f ⟨⟩ := rfl

theorem wp_rowP (X : S16x256.Idx → Elt F .f32) (r : Fin 16) (ids : Vec F S16 .i32) (T : TS F) (hT : OkCur T.st.cur) {α : Type} (k : St F → Prog (PE F i) α) (Q : α → sProp 𝕄) :
    iprop(holds d i arg8 h8 X ∗ accs arg9 h9 arg10 h10 arg11 h11 d i T
        ∗ (holds d i arg8 h8 X ∗ accs arg9 h9 arg10 h10 arg11 h11 d i (T.step (ids (ix1 r)) (lanes X r)) -∗ wpT d i (k (T.step (ids (ix1 r)) (lanes X r)).st) Q))
      ⊢ wpT d i (rowP i arg8 arg9 arg10 arg11 r ids T.st k) Q := by
  unfold rowP
  iintro ⟨H8, Ha, Hk⟩
  iapply (wp_assume 𝒱₀ (V d (cV i) (jV i)) none Set.univ (chk1_of hT))
  rw [TS.step_st]
  by_cases hc : k0_cond1 T.st.cur (idAt r ids) = 1#1
  · rw [dif_pos hc]
    unfold flush
    iapply (wp_flushT d i arg9 h9 arg10 h10 arg11 h11 T _ _ _ _ rfl rfl _ Q)
    isplitl [Ha]; · iexact Ha
    iintro Ha
    iapply (wp_withRow d i arg8 h8 X r _ Q)
    isplitl [H8]; · iexact H8
    iintro H8
    rw [idAt_eq] at hc ⊢
    iapply Hk
    isplitl [H8]; · iexact H8
    rw [show T.step (ids (ix1 r)) (lanes X r) = ⟨T.st.step (ids (ix1 r)) (lanes X r), T.flush.M, T.flush.A, T.flush.C⟩ from if_pos hc]
    iexact Ha
  · rw [dif_neg hc]
    rw [pure_unit_bind]
    iapply (wp_withRow d i arg8 h8 X r _ Q)
    isplitl [H8]; · iexact H8
    iintro H8
    rw [idAt_eq] at hc ⊢
    iapply Hk
    isplitl [H8]; · iexact H8
    rw [show T.step (ids (ix1 r)) (lanes X r) = ⟨T.st.step (ids (ix1 r)) (lanes X r), T.M, T.A, T.C⟩ from if_neg hc]
    iexact Ha

/-- The rows of `l` run. -/
def stepL (X : S16x256.Idx → Elt F .f32) (ids : Vec F S16 .i32) (l : List (Fin 16)) (T : TS F) : TS F :=
  l.foldl (fun T r => T.step (ids (ix1 r)) (lanes X r)) T

theorem wp_rowsP (X : S16x256.Idx → Elt F .f32) (ids : Vec F S16 .i32) (hids : ∀ r : Fin 16, OkCur (ids (ix1 r))) {α : Type} (k : St F → Prog (PE F i) α) (Q : α → sProp 𝕄)
    (l : List (Fin 16)) : ∀ (T : TS F), OkCur T.st.cur →
    iprop(holds d i arg8 h8 X ∗ accs arg9 h9 arg10 h10 arg11 h11 d i T
        ∗ (holds d i arg8 h8 X ∗ accs arg9 h9 arg10 h10 arg11 h11 d i (stepL X ids l T) -∗ wpT d i (k (stepL X ids l T).st) Q))
      ⊢ wpT d i (rowsP i arg8 arg9 arg10 arg11 ids l T.st k) Q := by
  induction l with
  | nil =>
    intro T hT
    change _ ⊢ wpT d i (k T.st) Q
    iintro ⟨H8, Ha, Hk⟩
    iapply Hk
    isplitl [H8]; · iexact H8
    iexact Ha
  | cons r l ih =>
    intro T hT
    change _ ⊢ wpT d i (rowP i arg8 arg9 arg10 arg11 r ids T.st fun st' => rowsP i arg8 arg9 arg10 arg11 ids l st' k) Q
    iintro ⟨H8, Ha, Hk⟩
    iapply (wp_rowP d i arg8 h8 arg9 h9 arg10 h10 arg11 h11 X r ids T hT _ Q)
    isplitl [H8]; · iexact H8
    isplitl [Ha]; · iexact Ha
    iintro ⟨H8, Ha⟩
    iapply (ih (T.step (ids (ix1 r)) (lanes X r)) (by rw [TS.step_st]; exact hids r))
    isplitl [H8]; · iexact H8
    isplitl [Ha]; · iexact Ha
    iexact Hk

end Run

end Cert.Proof.KernelIdeal
-- ==== Proof.Ideal.Tile.lean ====
/-
  The tile's program run with its values: its three accumulators are copied out at what `finT` says.
-/
module

public import proofs.«01_k».proof.Proof.Ideal.Rows

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MM F

section Run

variable (d : Dev nD) (i : grid0.Coords)

/-- The tile's thread, and the wait evidence it carries. -/
abbrev thr (d : Dev nD) (i : grid0.Coords) : Thread nD τ := V d (cV i) (jV i)
abbrev EC : UEmb Counters 𝕄 := countersEmb

/-- What a tile owes with what it has waited for. -/
def owesW (d : Dev nD) (i : grid0.Coords) (O : CellTallies nD τ sig (HIx 1)) (W : Waits sig (HIx 1)) : sProp 𝕄 :=
  iprop(∃ W', ⌜∀ p ∈ W', p ∈ W ∨ p.2 = none ∨ p.2 = some (0 : Fin 1)⌝ ∗ owes (thr d i) O W')

theorem wp_done {α : Type} (a : α) (Q : α → sProp 𝕄) : Q a ⊢ wpT d i (pure a) Q := by
  refine BI.fupd_intro.trans (Entails.of_eq (wp_pure (Fr := frame) (wpE := wpE (defs₀ (F := F)) 𝒱₀ (V d (cV i) (jV i)) none) (E := Set.univ) (a := a) (Q := Q)).symm)

/-- A local copy and the wait for it. -/
theorem wp_copy {sp sp' : Space} {s : Shape} {e : EltTy} (src : Memref sig .scVector sp s e) (dst : Memref sig .scVector sp' s e) (sem : DmaSem sig)
    (hpos : 0 < dst.view.dmaCredit) {hsrc : src.view.WordExact} {hdst : dst.view.WordExact} {hsem : DmaTarget.Typed (nD := nD) sp (SemLoc.dma sem) (.here (p := .scVector (cV i) (jV i)) dst)}
    {hsrc' : src.view.WordExact} {hdst' : dst.view.WordExact} {q : PosShare TreeShare}
    {Ss : Finset (Idx (src.view.loc (thr d i)))} (hSs : src.view.set ⊆ Ss) {fs : Buf (Elt F) (src.view.loc (thr d i))}
    {Sd : Finset (Idx (dst.view.loc (thr d i)))} (hSd : dst.view.set ⊆ Sd) {fd : Buf (Elt F) (dst.view.loc (thr d i))}
    (O : CellTallies nD τ sig (HIx 1)) (W : Waits sig (HIx 1)) {α : Type} (k : PUnit → Prog (PE F i) α) (Q : α → sProp 𝕄) :
    iprop((src.view.loc (thr d i) ↦[Ss]{q} fs) ∗ (dst.view.loc (thr d i) ↦[Sd]{fullShare} fd) ∗ semVal (thr d i, .dma sem) 0
        ∗ Transfers.MayWaits (thr d i) (none : HIx 1) O ∗ owesW d i O W
        ∗ ((src.view.loc (thr d i) ↦[Ss]{q} fs) ∗ (dst.view.loc (thr d i) ↦[Sd]{fullShare} dst.view.write (Elt F) fd (src.view.read (Elt F) fs) Finset.univ)
            ∗ semVal (thr d i, .dma sem) 0 ∗ owesW d i O W -∗ wpT d i (k ⟨⟩) Q))
      ⊢ wpT d i (.op (TpuEff.enqueueDma src (.here dst) (.dma sem) hsrc hdst hsem) fun _ => .op (TpuEff.waitDma2 sem src dst hsrc' hdst') k) Q := by
  unfold owesW
  iintro ⟨Hs, Hd, Hv, #Hmw, ⟨%W', %hW, HO⟩, Hk⟩
  ihave Hs := (pointsTo_split_subset (ℓ := src.view.loc (thr d i)) (q := q) (f := fs) hSs).1 $$ Hs
  icases Hs with ⟨Hs, Hr⟩
  iapply (Transfers.wp_dmaLocal EC 𝒱₀ (thr d i) none (none : HIx 1) dst.view.dmaCredit rfl hpos hSd) $$ [Hs Hd Hv]
  · isplitl [Hs]; · iexact Hs
    isplitl [Hd]; · iexact Hd
    iexact Hv
  iintro HF
  ihave Hm := (Transfers.MayWaits.elim (SemLoc.dma sem)) $$ Hmw
  iapply (Transfers.wp_waitLocalO EC 𝒱₀ (thr d i) none (none : HIx 1) rfl) $$ [HF HO Hm]
  · isplitl [HF]; · iexact HF
    isplitl [HO]; · iexact HO
    iexact Hm
  iintro ⟨⟨Hd, Hs⟩, Hv, HO⟩
  ihave Hs := (pointsTo_split_subset (ℓ := src.view.loc (thr d i)) (q := q) (f := fs) hSs).2 $$ [Hs Hr]
  · isplitl [Hs]; · iexact Hs
    iexact Hr
  iapply Hk
  isplitl [Hs]; · iexact Hs
  isplitl [Hd]; · iexact Hd
  isplitl [Hv]; · iexact Hv
  iexists (insert (SemLoc.dma sem, (none : HIx 1)) W')
  isplitr
  · ipureintro
    intro p hp
    rcases Finset.mem_insert.mp hp with rfl | hp
    · exact .inr (.inl rfl)
    · exact hW p hp
  iexact HO

variable (arg2 : Memref sig .scVector .hbm S50000x256 .f32) (h2 : arg2.IsWhole) (arg3 : Memref sig .scVector .hbm S50016 .i32) (h3 : arg3.IsWhole)
  (arg4 : Memref sig .scVector .hbm S32x128x256 .f32) (arg5 : Memref sig .scVector .hbm S32x128x256 .f32) (arg6 : Memref sig .scVector .hbm S32x128x16 .f32)
  (arg7 : Memref sig .scVector .vmem S1568 .i32) (h7 : arg7.IsWhole) (arg8 : Memref sig .scVector .vmem S16x256 .f32) (h8 : arg8.IsWhole)
  (arg9 : Memref sig .scVector .vmem S128x256 .f32) (h9 : arg9.IsWhole) (arg10 : Memref sig .scVector .vmem S128x256 .f32) (h10 : arg10.IsWhole)
  (arg11 : Memref sig .scVector .vmem S128x16 .f32) (h11 : arg11.IsWhole)
  (s0 s1 s3 s4 s5 : DmaSems sig S_)

/-! ## The accumulators initialised -/

def initTo (t : ℕ) (A9 A10 : AccM F) (A11 : AccC F) : TS F :=
  ⟨St.init, fun y => if (y 0).val < t then TS.init.M y else A9 y, fun y => if (y 0).val < t then TS.init.A y else A10 y,
    fun y => if (y 0).val < t then TS.init.C y else A11 y⟩

theorem initTo_zero (A9 A10 : AccM F) (A11 : AccC F) : initTo 0 A9 A10 A11 = ⟨St.init, A9, A10, A11⟩ := by
  simp [initTo]
theorem initTo_last (A9 A10 : AccM F) (A11 : AccC F) : initTo 128 A9 A10 A11 = TS.init := by
  have h : ∀ y : S128x256.Idx, (y 0).val < 128 := fun y => (y 0).isLt
  have h' : ∀ y : S128x16.Idx, (y 0).val < 128 := fun y => (y 0).isLt
  simp only [initTo, h, h', if_true]
  rfl
theorem initTo_succ (t : ℕ) (A9 A10 : AccM F) (A11 : AccC F) :
    (⟨St.init, putRow (initTo t A9 A10 A11).M t fun _ => k0_pay2719, putRow (initTo t A9 A10 A11).A t fun _ => k0_pay2720,
      putC (initTo t A9 A10 A11).C t k0_pay2720⟩ : TS F) = initTo (t + 1) A9 A10 A11 := by
  have e : ∀ a b : ℕ, a < b + 1 ↔ (a = b ∨ a < b) := by omega
  simp only [initTo, TS.mk.injEq, true_and]
  refine ⟨?_, ?_, ?_⟩
  · funext y
    by_cases h0 : (y 0).val = t <;> simp [putRow, h0, e, TS.init]
  · funext y
    by_cases h0 : (y 0).val = t <;> simp [putRow, h0, e, TS.init]
  · funext y
    by_cases h0 : (y 0).val = t <;> simp [putC, h0, e, TS.init]

theorem trips1 : k0_t1_loop.trips = 128 := by decide +kernel

theorem wp_initRow (t : Fin k0_t1_loop.trips) (A9 A10 : AccM F) (A11 : AccC F) (Q : PUnit → sProp 𝕄) :
    iprop(accs arg9 h9 arg10 h10 arg11 h11 d i (initTo t.val A9 A10 A11)
        ∗ (accs arg9 h9 arg10 h10 arg11 h11 d i (initTo (t.val + 1) A9 A10 A11) -∗ Q ⟨⟩))
      ⊢ wpT d i (initRow i arg9 arg10 arg11 t) Q := by
  have e : (initRow (F := F) i arg9 arg10 arg11 t) = (flushL i (rowM arg9 (k0_off2 t) (k0_off2_inb t)) (rowM arg10 (k0_off2 t) (k0_off2_inb t)) (rowC arg11 (k0_off3 t) (k0_off3_inb t))
    k0_pay2720 (fun _ => k0_pay2719) (fun _ => k0_pay2720) pieces >>= fun _ => pure ⟨⟩) := (Prog.bind_pure _).symm
  rw [e]
  unfold accs
  iintro ⟨⟨H9, H10, H11⟩, Hk⟩
  iapply (wp_flushL d i arg9 h9 arg10 h10 arg11 h11 _ _ _ _ t.val (k0_off2_eq t) (k0_off3_eq t) k0_pay2720 (fun _ => k0_pay2719) (fun _ => k0_pay2720) _ Q pieces)
  isplitl [H9]; · iexact H9
  isplitl [H10]; · iexact H10
  isplitl [H11]; · iexact H11
  rw [putPart_pieces, putPart_pieces, ← initTo_succ]
  iintro H
  iapply wp_done
  iapply Hk
  iexact H

/-! ## A group -/

/-- The tile's number. -/
def wOf (i : grid0.Coords) : ℕ := 16 * (i 0).val + (i 1).val

theorem trips2 : ∀ i : grid0.Coords, (k0_t2_loop i).trips = groupsOf (wOf i) := by decide +kernel

/-- Every row of the array is of one of the graphs. -/
def OkIds (s : S50016.Idx → BitVec 32) : Prop := ∀ R, R < 50000 → (idOf s R).toNat < 128

theorem runT_cur (N : S50000x256.Idx → Elt F .f32) (s : S50016.Idx → BitVec 32) (hs : OkIds s) (R : ℕ) : ∀ m, R + m ≤ 50000 → OkCur (runT N s R m).st.cur
  | 0, _ => .inl rfl
  | m + 1, h => by
    show OkCur ((runT N s R m).step _ _).st.cur
    rw [TS.step_st]
    exact .inr (hs (R + m) (by omega))

/-- The ids a tile fetches. -/
def idsOf (s : S50016.Idx → BitVec 32) (w : ℕ) : S1568.Idx → BitVec 32 := fun y => idOf s (baseOf w + (y 0).val)

theorem ids_read (s : S50016.Idx → Elt F .i32) :
    (arg3.slice (Rect.unit (s := S50016) (k0_off1 i) S1568.size (k0_off1_inb i)) (fun _ => rfl)).view.read (Elt F) (h3.unread s) = idsOf s (wOf i) := by
  funext y
  refine (congrFun (h3.read_unread s) _).trans ?_
  unfold idsOf idOf
  congr 1
  funext b; apply Fin.ext
  have hb := k0_off1_inb i 0
  have hy : (y 0).val < 1568 := (y 0).isLt
  match b with
  | 0 =>
    show k0_off1 i 0 + 1 * (y 0).val = _
    have e : k0_off1 i 0 = baseOf (wOf i) := by rw [k0_off1_eq]; show 24832 * (i 0).val + 1552 * (i 1).val + 16 * (min (16 * (i 0).val + (i 1).val) 21) = _; unfold baseOf wOf; omega
    have hb' : k0_off1 i 0 + 1568 ≤ 50016 := hb
    rw [e] at hb' ⊢
    show _ = (baseOf (wOf i) + (y 0).val) % 50016
    rw [Nat.mod_eq_of_lt (by omega)]; omega

theorem group_ids (s : S50016.Idx → BitVec 32) (t : Fin (k0_t2_loop i).trips) (r : Fin 16) :
    View.readAt (Elt F) arg7.view (Rect.unit (s := S1568) (k0_off5 i t) S16.size (k0_off5_inb i t)).toLoadRect (h7.unread (idsOf s (wOf i))) (ix1 r)
      = idOf s (baseOf (wOf i) + (16 * t.val + r.val)) := by
  rw [h7.readAt_unread]
  unfold idsOf
  congr 2
  show k0_off5 i t 0 + 1 * r.val = _
  rw [k0_off5_eq]
  show 16 * t.val + 1 * r.val = _
  omega

theorem off4_zero (t : Fin (k0_t2_loop i).trips) : k0_off4 i t 0 = baseOf (wOf i) + 16 * t.val := by
  rw [k0_off4_eq]
  show 24832 * (i 0).val + 1552 * (i 1).val + 16 * (min (16 * (i 0).val + (i 1).val) 21) + 16 * t.val = _
  unfold baseOf wOf; omega
theorem group_inb (t : Fin (k0_t2_loop i).trips) : baseOf (wOf i) + 16 * t.val + 16 ≤ 50000 := by
  rw [← off4_zero]; exact k0_off4_inb i t 0

theorem group_rows (N : S50000x256.Idx → Elt F .f32) (t : Fin (k0_t2_loop i).trips) (r : Fin 16) :
    lanes ((arg2.slice (Rect.unit (s := S50000x256) (k0_off4 i t) S16x256.size (k0_off4_inb i t)) (fun _ => rfl)).view.read (Elt F) (h2.unread N)) r
      = xOf N (baseOf (wOf i) + (16 * t.val + r.val)) := by
  funext j y
  refine (congrFun (h2.read_unread N) _).trans ?_
  unfold xOf
  congr 1
  have hb := group_inb i t
  have := r.isLt
  funext b; apply Fin.ext
  match b with
  | 0 =>
    show k0_off4 i t 0 + 1 * r.val = (baseOf (wOf i) + (16 * t.val + r.val)) % 50000
    rw [off4_zero, Nat.mod_eq_of_lt (by omega)]; omega
  | 1 =>
    show k0_off4 i t 1 + 1 * (16 * j.val + (y 1).val) = _
    rw [k0_off4_eq]
    show 0 + 1 * (16 * j.val + (y 1).val) = 16 * j.val + (y 1).val
    omega

theorem stepL_run (N : S50000x256.Idx → Elt F .f32) (s : S50016.Idx → BitVec 32) (R t : ℕ) (X : S16x256.Idx → Elt F .f32) (ids : Vec F S16 .i32)
    (hi : ∀ r : Fin 16, ids (ix1 r) = idOf s (R + (16 * t + r.val))) (hx : ∀ r, lanes X r = xOf N (R + (16 * t + r.val))) :
    stepL X ids pieces (runT N s R (16 * t)) = runT N s R (16 * (t + 1)) := by
  have e : (fun (T : TS F) (r : Fin 16) => T.step (ids (ix1 r)) (lanes X r)) = fun T r => T.step (idOf s (R + (16 * t + r.val))) (xOf N (R + (16 * t + r.val))) := by
    funext T r; rw [hi, hx]
  unfold stepL
  rw [e]
  have hr : ∀ n, (List.range n).foldl (fun (T : TS F) r => T.step (idOf s (R + (16 * t + r))) (xOf N (R + (16 * t + r)))) (runT N s R (16 * t)) = runT N s R (16 * t + n) := by
    intro n
    induction n with
    | zero => rfl
    | succ n ih => rw [List.range_succ, List.foldl_append, ih]; rfl
  rw [show 16 * (t + 1) = 16 * t + 16 by omega, ← hr, show List.range 16 = pieces.map Fin.val from rfl, List.foldl_map]

theorem unread_write {sp : Space} {s : Shape} {e : EltTy} (m : Memref sig .scVector sp s e) (h : m.IsWhole) (f : m.view.ty.Contents (Elt F)) (w : s.Idx → Elt F e) :
    m.view.write (Elt F) f w Finset.univ = h.unread w := h.eq_unread (View.read_write_univ _ _)

variable (O : CellTallies nD τ sig (HIx 1)) (W : Waits sig (HIx 1)) (q2 : PosShare TreeShare)

theorem wp_groupP (N : S50000x256.Idx → Elt F .f32) (s : S50016.Idx → BitVec 32) (hs : OkIds s) (t : Fin (k0_t2_loop i).trips) (X : S16x256.Idx → Elt F .f32) (Q : Tup F → sProp 𝕄) :
    iprop((arg2.view.loc (thr d i) ↦{q2} h2.unread N) ∗ holds (F := F) d i arg7 h7 (idsOf s (wOf i)) ∗ holds d i arg8 h8 X
        ∗ accs arg9 h9 arg10 h10 arg11 h11 d i (runT N s (baseOf (wOf i)) (16 * t.val))
        ∗ semVal (thr d i, .dma s1.sem) 0 ∗ Transfers.MayWaits (thr d i) (none : HIx 1) O ∗ owesW d i O W
        ∗ ((∃ X, (arg2.view.loc (thr d i) ↦{q2} h2.unread N) ∗ holds (F := F) d i arg7 h7 (idsOf s (wOf i)) ∗ holds d i arg8 h8 X
            ∗ accs arg9 h9 arg10 h10 arg11 h11 d i (runT N s (baseOf (wOf i)) (16 * (t.val + 1)))
            ∗ semVal (thr d i, .dma s1.sem) 0 ∗ owesW d i O W) -∗ Q (runT N s (baseOf (wOf i)) (16 * (t.val + 1))).st.tup))
      ⊢ wpT d i (groupP i arg2 arg7 arg8 arg9 arg10 arg11 h8 s1 t (runT N s (baseOf (wOf i)) (16 * t.val)).st) Q := by
  unfold groupP
  have hcur := runT_cur N s hs (baseOf (wOf i)) (16 * t.val) (by have := group_inb i t; omega)
  have hi := group_ids (F := F) i arg7 h7 s t
  have hx := group_rows i arg2 h2 N t
  have hok : ∀ r : Fin 16, OkCur (View.readAt (Elt F) arg7.view (Rect.unit (s := S1568) (k0_off5 i t) S16.size (k0_off5_inb i t)).toLoadRect (h7.unread (idsOf s (wOf i))) (ix1 r)) := by
    intro r; rw [hi]
    exact .inr (hs _ (by have := group_inb i t; have := r.isLt; omega))
  have he := stepL_run N s (baseOf (wOf i)) t.val _ _ hi hx
  rw [← he]
  unfold holds
  iintro ⟨H2, H7, H8, Ha, Hv, Hmw, HO, Hk⟩
  iapply (wp_copy d i (arg2.slice (Rect.unit (s := S50000x256) (k0_off4 i t) S16x256.size (k0_off4_inb i t)) (fun _ => rfl)) arg8 s1.sem
    (View.amount_pos arg8.view (.dma s1.sem) (show 0 < S16x256.numel by decide)) (Ss := Finset.univ) (q := q2) (fs := h2.unread N) (Finset.subset_univ _) (Sd := Finset.univ) (fd := h8.unread X) (Finset.subset_univ _) O W)
  isplitl [H2]; · iexact H2
  isplitl [H8]; · iexact H8
  isplitl [Hv]; · iexact Hv
  isplitl [Hmw]; · iexact Hmw
  isplitl [HO]; · iexact HO
  iintro ⟨H2, H8, Hv, HO⟩
  rw [unread_write arg8 h8]
  iapply (wp_load 𝒱₀ (V d (cV i) (jV i)) none Set.univ (m := arg7) (S := Finset.univ) (q := fullShare) (f := h7.unread (idsOf s (wOf i))) (Finset.subset_univ _)) $$ H7
  iintro H7
  iapply (wp_rowsP d i arg8 h8 arg9 h9 arg10 h10 arg11 h11 _ _ hok _ Q pieces _ hcur)
  unfold holds
  isplitl [H8]; · iexact H8
  isplitl [Ha]; · iexact Ha
  iintro ⟨H8, Ha⟩
  iapply wp_done
  iapply Hk
  iexists _
  isplitl [H2]; · iexact H2
  isplitl [H7]; · iexact H7
  isplitl [H8]; · iexact H8
  isplitl [Ha]; · iexact Ha
  isplitl [Hv]; · iexact Hv
  iexact HO

/-! ## The whole task -/

variable (f4 : Buf (Elt F) (arg4.view.loc (thr d i))) (f5 : Buf (Elt F) (arg5.view.loc (thr d i))) (f6 : Buf (Elt F) (arg6.view.loc (thr d i)))

theorem wp_outP (T : TS F) (Q : PUnit → sProp 𝕄) :
    iprop(accs arg9 h9 arg10 h10 arg11 h11 d i T
        ∗ (arg4.view.loc (thr d i) ↦[(outM i arg4).view.set]{fullShare} f4)
        ∗ (arg5.view.loc (thr d i) ↦[(outM i arg5).view.set]{fullShare} f5)
        ∗ (arg6.view.loc (thr d i) ↦[(outC i arg6).view.set]{fullShare} f6)
        ∗ semVal (thr d i, .dma s3.sem) 0 ∗ semVal (thr d i, .dma s4.sem) 0 ∗ semVal (thr d i, .dma s5.sem) 0
        ∗ Transfers.MayWaits (thr d i) (none : HIx 1) O ∗ owesW d i O W
        ∗ (accs arg9 h9 arg10 h10 arg11 h11 d i T
          ∗ (arg4.view.loc (thr d i) ↦[(outM i arg4).view.set]{fullShare} (outM i arg4).view.write (Elt F) f4 T.M Finset.univ)
          ∗ (arg5.view.loc (thr d i) ↦[(outM i arg5).view.set]{fullShare} (outM i arg5).view.write (Elt F) f5 T.A Finset.univ)
          ∗ (arg6.view.loc (thr d i) ↦[(outC i arg6).view.set]{fullShare} (outC i arg6).view.write (Elt F) f6 T.C Finset.univ)
          ∗ semVal (thr d i, .dma s3.sem) 0 ∗ semVal (thr d i, .dma s4.sem) 0 ∗ semVal (thr d i, .dma s5.sem) 0 ∗ owesW d i O W -∗ Q ⟨⟩))
      ⊢ wpT d i (outP i arg4 arg5 arg6 arg9 h9 arg10 h10 arg11 h11 s3 s4 s5) Q := by
  unfold outP accs holds
  iintro ⟨⟨H9, H10, H11⟩, H4, H5, H6, Hv3, Hv4, Hv5, #Hmw, HO, Hk⟩
  iapply (wp_copy d i arg9 (outM i arg4) s3.sem (View.amount_pos (outM i arg4).view (.dma s3.sem) (show 0 < S128x256.numel by decide)) (Ss := Finset.univ) (q := fullShare)
    (fs := h9.unread T.M) (Finset.subset_univ _) (Sd := (outM i arg4).view.set) (fd := f4) (Finset.Subset.refl _) O W)
  isplitl [H9]; · iexact H9
  isplitl [H4]; · iexact H4
  isplitl [Hv3]; · iexact Hv3
  isplitr; · iexact Hmw
  isplitl [HO]; · iexact HO
  iintro ⟨H9, H4, Hv3, HO⟩
  iapply (wp_copy d i arg10 (outM i arg5) s4.sem (View.amount_pos (outM i arg5).view (.dma s4.sem) (show 0 < S128x256.numel by decide)) (Ss := Finset.univ) (q := fullShare)
    (fs := h10.unread T.A) (Finset.subset_univ _) (Sd := (outM i arg5).view.set) (fd := f5) (Finset.Subset.refl _) O W)
  isplitl [H10]; · iexact H10
  isplitl [H5]; · iexact H5
  isplitl [Hv4]; · iexact Hv4
  isplitr; · iexact Hmw
  isplitl [HO]; · iexact HO
  iintro ⟨H10, H5, Hv4, HO⟩
  iapply (wp_copy d i arg11 (outC i arg6) s5.sem (View.amount_pos (outC i arg6).view (.dma s5.sem) (show 0 < S128x16.numel by decide)) (Ss := Finset.univ) (q := fullShare)
    (fs := h11.unread T.C) (Finset.subset_univ _) (Sd := (outC i arg6).view.set) (fd := f6) (Finset.Subset.refl _) O W)
  isplitl [H11]; · iexact H11
  isplitl [H6]; · iexact H6
  isplitl [Hv5]; · iexact Hv5
  isplitr; · iexact Hmw
  isplitl [HO]; · iexact HO
  iintro ⟨H11, H6, Hv5, HO⟩
  rw [h9.read_unread, h10.read_unread, h11.read_unread]
  iapply wp_done
  iapply Hk
  isplitl [H9 H10 H11]
  · isplitl [H9]; · iexact H9
    isplitl [H10]; · iexact H10
    iexact H11
  isplitl [H4]; · iexact H4
  isplitl [H5]; · iexact H5
  isplitl [H6]; · iexact H6
  isplitl [Hv3]; · iexact Hv3
  isplitl [Hv4]; · iexact Hv4
  isplitl [Hv5]; · iexact Hv5
  iexact HO

variable (q3 : PosShare TreeShare)

theorem wp_tileP (N : S50000x256.Idx → Elt F .f32) (s : S50016.Idx → BitVec 32) (hs : OkIds s) (X7 : S1568.Idx → Elt F .i32) (X8 : S16x256.Idx → Elt F .f32)
    (A9 A10 : AccM F) (A11 : AccC F) (Q : PUnit → sProp 𝕄) :
    iprop((arg2.view.loc (thr d i) ↦{q2} h2.unread N) ∗ (arg3.view.loc (thr d i) ↦{q3} h3.unread (Val := Elt F) s)
        ∗ (arg4.view.loc (thr d i) ↦[(outM i arg4).view.set]{fullShare} f4)
        ∗ (arg5.view.loc (thr d i) ↦[(outM i arg5).view.set]{fullShare} f5)
        ∗ (arg6.view.loc (thr d i) ↦[(outC i arg6).view.set]{fullShare} f6)
        ∗ holds (F := F) d i arg7 h7 X7 ∗ holds d i arg8 h8 X8 ∗ holds d i arg9 h9 A9 ∗ holds d i arg10 h10 A10 ∗ holds d i arg11 h11 A11
        ∗ semVal (thr d i, .dma s0.sem) 0 ∗ semVal (thr d i, .dma s1.sem) 0
        ∗ semVal (thr d i, .dma s3.sem) 0 ∗ semVal (thr d i, .dma s4.sem) 0 ∗ semVal (thr d i, .dma s5.sem) 0
        ∗ Transfers.MayWaits (thr d i) (none : HIx 1) O ∗ owesW d i O W
        ∗ ((∃ X, (arg2.view.loc (thr d i) ↦{q2} h2.unread N) ∗ (arg3.view.loc (thr d i) ↦{q3} h3.unread (Val := Elt F) s)
          ∗ (arg4.view.loc (thr d i) ↦[(outM i arg4).view.set]{fullShare} (outM i arg4).view.write (Elt F) f4 (finT N s (wOf i)).M Finset.univ)
          ∗ (arg5.view.loc (thr d i) ↦[(outM i arg5).view.set]{fullShare} (outM i arg5).view.write (Elt F) f5 (finT N s (wOf i)).A Finset.univ)
          ∗ (arg6.view.loc (thr d i) ↦[(outC i arg6).view.set]{fullShare} (outC i arg6).view.write (Elt F) f6 (finT N s (wOf i)).C Finset.univ)
          ∗ holds (F := F) d i arg7 h7 (idsOf s (wOf i)) ∗ holds d i arg8 h8 X ∗ accs arg9 h9 arg10 h10 arg11 h11 d i (finT N s (wOf i))
          ∗ semVal (thr d i, .dma s0.sem) 0 ∗ semVal (thr d i, .dma s1.sem) 0
          ∗ semVal (thr d i, .dma s3.sem) 0 ∗ semVal (thr d i, .dma s4.sem) 0 ∗ semVal (thr d i, .dma s5.sem) 0 ∗ owesW d i O W) -∗ Q ⟨⟩))
      ⊢ wpT d i (tileP i arg2 arg3 arg4 arg5 arg6 arg7 h7 arg8 h8 arg9 h9 arg10 h10 arg11 h11 s0 s1 s3 s4 s5) Q := by
  unfold tileP
  iintro ⟨H2, H3, H4, H5, H6, H7, H8, H9, H10, H11, Hv0, Hv1, Hv3, Hv4, Hv5, #Hmw, HO, Hk⟩
  unfold holds
  iapply (wp_copy d i (arg3.slice (Rect.unit (s := S50016) (k0_off1 i) S1568.size (k0_off1_inb i)) (fun _ => rfl)) arg7 s0.sem
    (View.amount_pos arg7.view (.dma s0.sem) (show 0 < S1568.numel by decide)) (Ss := Finset.univ) (q := q3) (fs := h3.unread s) (Finset.subset_univ _) (Sd := Finset.univ) (fd := h7.unread X7) (Finset.subset_univ _) O W)
  isplitl [H3]; · iexact H3
  isplitl [H7]; · iexact H7
  isplitl [Hv0]; · iexact Hv0
  isplitr; · iexact Hmw
  isplitl [HO]; · iexact HO
  iintro ⟨H3, H7, Hv0, HO⟩
  rw [unread_write arg7 h7, ids_read]
  -- the accumulators initialised
  iapply (Scf.wp_for_bind frame (wpE (defs₀ (F := F)) 𝒱₀ (thr d i) none) Set.univ k0_t1_loop.lb k0_t1_loop.ub k0_t1_loop.st k0_t1_ok PUnit.unit _
    (fun t _ => accs arg9 h9 arg10 h10 arg11 h11 d i (initTo t A9 A10 A11)) (fun t _ => by
      iintro Ha
      iapply (wp_initRow d i arg9 h9 arg10 h10 arg11 h11 t A9 A10 A11)
      isplitl [Ha]; · iexact Ha
      iintro Ha
      iexact Ha)) $$ [H9 H10 H11]
  · rw [initTo_zero]
    unfold accs holds
    isplitl [H9]; · iexact H9
    isplitl [H10]; · iexact H10
    iexact H11
  iintro %_u Ha
  rw [show Scf.trips k0_t1_loop.lb k0_t1_loop.ub k0_t1_loop.st = 128 from trips1, initTo_last]
  -- the groups
  iapply (Scf.wp_for_bind frame (wpE (defs₀ (F := F)) 𝒱₀ (thr d i) none) Set.univ (k0_t2_loop i).lb (k0_t2_loop i).ub (k0_t2_loop i).st (k0_t2_ok i) (St.init (F := F)).tup _
    (fun t u => iprop(⌜u = (runT N s (baseOf (wOf i)) (16 * t)).st.tup⌝ ∗ (∃ X, (arg2.view.loc (thr d i) ↦{q2} h2.unread N) ∗ holds (F := F) d i arg7 h7 (idsOf s (wOf i)) ∗ holds d i arg8 h8 X
            ∗ accs arg9 h9 arg10 h10 arg11 h11 d i (runT N s (baseOf (wOf i)) (16 * t))
            ∗ semVal (thr d i, .dma s1.sem) 0 ∗ owesW d i O W) ∗ Transfers.MayWaits (thr d i) (none : HIx 1) O)) (fun t u => by
      iintro ⟨%hu, ⟨%X, H2, H7, H8, Ha, Hv1, HO⟩, #Hmw⟩
      subst hu
      rw [ofTup_tup]
      iapply (wp_groupP d i arg2 h2 arg7 h7 arg8 h8 arg9 h9 arg10 h10 arg11 h11 s1 O W q2 N s hs t X)
      isplitl [H2]; · iexact H2
      isplitl [H7]; · iexact H7
      isplitl [H8]; · iexact H8
      isplitl [Ha]; · iexact Ha
      isplitl [Hv1]; · iexact Hv1
      isplitr; · iexact Hmw
      isplitl [HO]; · iexact HO
      iintro H
      isplitr; · ipureintro; rfl
      isplitl [H]; · iexact H
      iexact Hmw)) $$ [H2 H7 H8 Ha Hv1 HO]
  · isplitr; · ipureintro; rfl
    isplitl
    · iexists X8
      unfold holds
      isplitl [H2]; · iexact H2
      isplitl [H7]; · iexact H7
      isplitl [H8]; · iexact H8
      isplitl [Ha]; · iexact Ha
      isplitl [Hv1]; · iexact Hv1
      iexact HO
    iexact Hmw
  iintro %u ⟨%hu, ⟨%X, H2, H7, H8, Ha, Hv1, HO⟩, -⟩
  rw [show Scf.trips (k0_t2_loop i).lb (k0_t2_loop i).ub (k0_t2_loop i).st = groupsOf (wOf i) from trips2 i] at hu ⊢
  subst hu
  -- the last flush and the copies out
  have hcur := runT_cur N s hs (baseOf (wOf i)) (16 * groupsOf (wOf i)) (by
    have h0 : (i 0).val < 2 := (i 0).isLt
    have h1 : (i 1).val < 16 := (i 1).isLt
    unfold baseOf groupsOf wOf; split <;> omega)
  unfold lastP
  rw [ofTup_tup]
  iapply (wp_assume 𝒱₀ (V d (cV i) (jV i)) none Set.univ (chk33_of hcur))
  iapply (wp_flushT d i arg9 h9 arg10 h10 arg11 h11 (runT N s (baseOf (wOf i)) (16 * groupsOf (wOf i))) _ _ _ _ rfl rfl)
  isplitl [Ha]; · iexact Ha
  iintro Ha
  iapply (wp_outP d i arg4 arg5 arg6 arg9 h9 arg10 h10 arg11 h11 s3 s4 s5 O W f4 f5 f6 (finT N s (wOf i)))
  isplitl [Ha]; · iexact Ha
  isplitl [H4]; · iexact H4
  isplitl [H5]; · iexact H5
  isplitl [H6]; · iexact H6
  isplitl [Hv3]; · iexact Hv3
  isplitl [Hv4]; · iexact Hv4
  isplitl [Hv5]; · iexact Hv5
  isplitr; · iexact Hmw
  isplitl [HO]; · iexact HO
  iintro ⟨Ha, H4, H5, H6, Hv3, Hv4, Hv5, HO⟩
  unfold holds
  iapply Hk
  iexists X
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Ha]; · iexact Ha
  isplitl [Hv0]; · iexact Hv0
  isplitl [Hv1]; · iexact Hv1
  isplitl [Hv3]; · iexact Hv3
  isplitl [Hv4]; · iexact Hv4
  isplitl [Hv5]; · iexact Hv5
  iexact HO

end Run

end Cert.Proof.KernelIdeal
-- ==== Proof.Ideal.Deal.lean ====
/-
  What the segment kernel's call hands its thirty-two tiles and what it takes back: each tile a read share of the rows and
  of the ids, and its own block of the three results, written with the tile's accumulators; and the tile's run from the
  thread's own buffers and semaphores.
-/
module

public import proofs.«01_k».proof.Proof.Ideal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MM F

/-! ## The arrays -/

abbrev nLoc (d : Dev nD) : Loc nD τ sig := (SparseCore.T d).loc main_arg0
abbrev pLoc (d : Dev nD) : Loc nD τ sig := (SparseCore.T d).loc main_v0
abbrev mLoc (d : Dev nD) : Loc nD τ sig := (SparseCore.T d).loc main_v1_0
abbrev aLoc (d : Dev nD) : Loc nD τ sig := (SparseCore.T d).loc main_v1_1
abbrev cLoc (d : Dev nD) : Loc nD τ sig := (SparseCore.T d).loc main_v1_2

abbrev kN : Memref sig .scVector .hbm S50000x256 .f32 := Memref.whole main_arg0_scv
abbrev kP : Memref sig .scVector .hbm S50016 .i32 := Memref.whole main_v0_scv
abbrev kM : Memref sig .scVector .hbm S32x128x256 .f32 := Memref.whole main_v1_0_scv
abbrev kA : Memref sig .scVector .hbm S32x128x256 .f32 := Memref.whole main_v1_1_scv
abbrev kC : Memref sig .scVector .hbm S32x128x16 .f32 := Memref.whole main_v1_2_scv
abbrev kI : Memref sig .scVector .vmem S1568 .i32 := Memref.whole cc0_scratch0
abbrev kX : Memref sig .scVector .vmem S16x256 .f32 := Memref.whole cc0_scratch1
abbrev sM : Memref sig .scVector .vmem S128x256 .f32 := Memref.whole cc0_scratch2
abbrev sA : Memref sig .scVector .vmem S128x256 .f32 := Memref.whole cc0_scratch3
abbrev sC : Memref sig .scVector .vmem S128x16 .f32 := Memref.whole cc0_scratch4

/-- The tile's number. -/
theorem wOf_lt (L : grid0.Coords) : wOf L < 32 := by
  have h0 : (L 0).val < 2 := (L 0).isLt
  have h1 : (L 1).val < 16 := (L 1).isLt
  unfold wOf; omega
def wF (L : grid0.Coords) : Fin 32 := ⟨wOf L, wOf_lt L⟩

/-- The tile's block of the results. -/
abbrev blkM (L : grid0.Coords) : Finset S32x128x256.Idx := (outM L kM).view.set
abbrev blkC (L : grid0.Coords) : Finset S32x128x16.Idx := (outC L kC).view.set

theorem outM_emb (a : Memref sig .scVector .hbm S32x128x256 .f32) (L : grid0.Coords) (x : S128x256.Idx) :
    (outM L a).view.emb x = a.view.emb (ix3 (wF L) (x 0) (x 1)) := by
  show a.view.emb ((Rect.unit (s := S32x128x256) (k0_off74 L) S1x128x256.size (k0_off74_inb L)).emb (Shape.reshapeEquiv _ x)) = _
  rw [Shape.reshapeEquiv_cons_one]
  congr 1
  have e := k0_off74_eq L
  funext b
  apply Fin.ext
  match b with
  | 0 => show k0_off74 L 0 + 1 * 0 = wOf L; rw [e]; show 16 * (L 0).val + (L 1).val + 1 * 0 = wOf L; unfold wOf; omega
  | 1 => show k0_off74 L 1 + 1 * (x 0).val = (x 0).val; rw [e]; show 0 + 1 * (x 0).val = (x 0).val; omega
  | 2 => show k0_off74 L 2 + 1 * (x 1).val = (x 1).val; rw [e]; show 0 + 1 * (x 1).val = (x 1).val; omega

theorem outC_emb (a : Memref sig .scVector .hbm S32x128x16 .f32) (L : grid0.Coords) (x : S128x16.Idx) :
    (outC L a).view.emb x = a.view.emb (ix3 (wF L) (x 0) (x 1)) := by
  show a.view.emb ((Rect.unit (s := S32x128x16) (k0_off75 L) S1x128x16.size (k0_off75_inb L)).emb (Shape.reshapeEquiv _ x)) = _
  rw [Shape.reshapeEquiv_cons_one]
  congr 1
  have e := k0_off75_eq L
  funext b
  apply Fin.ext
  match b with
  | 0 => show k0_off75 L 0 + 1 * 0 = wOf L; rw [e]; show 16 * (L 0).val + (L 1).val + 1 * 0 = wOf L; unfold wOf; omega
  | 1 => show k0_off75 L 1 + 1 * (x 0).val = (x 0).val; rw [e]; show 0 + 1 * (x 0).val = (x 0).val; omega
  | 2 => show k0_off75 L 2 + 1 * (x 1).val = (x 1).val; rw [e]; show 0 + 1 * (x 1).val = (x 1).val; omega

theorem mem_blkM (L : grid0.Coords) (y : S32x128x256.Idx) : y ∈ blkM L ↔ (y 0).val = wOf L := by
  constructor
  · intro h
    obtain ⟨x, -, hx⟩ := Finset.mem_map.mp h
    rw [outM_emb kM] at hx
    rw [← hx]; rfl
  · intro h
    refine Finset.mem_map.mpr ⟨ix2 (y 1) (y 2), Finset.mem_univ _, ?_⟩
    rw [outM_emb kM]
    funext b
    match b with
    | 0 => exact Fin.ext h.symm
    | 1 => rfl
    | 2 => rfl
theorem mem_blkC (L : grid0.Coords) (y : S32x128x16.Idx) : y ∈ blkC L ↔ (y 0).val = wOf L := by
  constructor
  · intro h
    obtain ⟨x, -, hx⟩ := Finset.mem_map.mp h
    rw [outC_emb kC] at hx
    rw [← hx]; rfl
  · intro h
    refine Finset.mem_map.mpr ⟨ix2 (y 1) (y 2), Finset.mem_univ _, ?_⟩
    rw [outC_emb kC]
    funext b
    match b with
    | 0 => exact Fin.ext h.symm
    | 1 => rfl
    | 2 => rfl

/-! ## What the tiles leave -/

section Vals
variable (N : S50000x256.Idx → Elt F .f32) (s : S50016.Idx → BitVec 32)
def partM : S32x128x256.Idx → Elt F .f32 := fun y => (finT N s (y 0).val).M (ix2 (y 1) (y 2))
def partA : S32x128x256.Idx → Elt F .f32 := fun y => (finT N s (y 0).val).A (ix2 (y 1) (y 2))
def partC : S32x128x16.Idx → Elt F .f32 := fun y => (finT N s (y 0).val).C (ix2 (y 1) (y 2))

theorem writeM (L : grid0.Coords) (f : S32x128x256.Idx → Elt F .f32) {y : S32x128x256.Idx} (hy : y ∈ blkM L) :
    (outM L kM).view.write (Elt F) f (finT N s (wOf L)).M Finset.univ y = partM N s y := by
  obtain ⟨x, -, rfl⟩ := Finset.mem_map.mp hy
  rw [View.write_emb_of_mem _ _ (Finset.mem_univ _), outM_emb kM]
  exact congrArg (finT N s (wOf L)).M (show x = ix2 (x 0) (x 1) from by funext b; match b with | 0 => rfl | 1 => rfl)
theorem writeA (L : grid0.Coords) (f : S32x128x256.Idx → Elt F .f32) {y : S32x128x256.Idx} (hy : y ∈ blkM L) :
    (outM L kA).view.write (Elt F) f (finT N s (wOf L)).A Finset.univ y = partA N s y := by
  obtain ⟨x, -, rfl⟩ := Finset.mem_map.mp hy
  refine (View.write_emb_of_mem (v := (outM L kA).view) _ _ (Finset.mem_univ _)).trans ?_
  rw [outM_emb kM]
  exact congrArg (finT N s (wOf L)).A (show x = ix2 (x 0) (x 1) from by funext b; match b with | 0 => rfl | 1 => rfl)
theorem writeC (L : grid0.Coords) (f : S32x128x16.Idx → Elt F .f32) {y : S32x128x16.Idx} (hy : y ∈ blkC L) :
    (outC L kC).view.write (Elt F) f (finT N s (wOf L)).C Finset.univ y = partC N s y := by
  obtain ⟨x, -, rfl⟩ := Finset.mem_map.mp hy
  rw [View.write_emb_of_mem _ _ (Finset.mem_univ _), outC_emb kC]
  exact congrArg (finT N s (wOf L)).C (show x = ix2 (x 0) (x 1) from by funext b; match b with | 0 => rfl | 1 => rfl)
end Vals

/-! ## What the handshakes carry -/

variable (m : (ℓ : Loc nD τ sig) → Buf (Elt F) ℓ)
  (N : Dev nD → S50000x256.Idx → Elt F .f32) (s : Dev nD → S50016.Idx → BitVec 32)

/-- The tile's share of what all of them read. -/
abbrev qT (L : grid0.Coords) : PosShare TreeShare := Transfers.dealOf fullShare (Finset.univ : Finset (Fin 32)) (wF L)

abbrev nPts (d : Dev nD) (q : PosShare TreeShare) : sProp 𝕄 := nLoc d ↦{q} (N d : Buf (Elt F) (nLoc d))
abbrev pPts (d : Dev nD) (q : PosShare TreeShare) : sProp 𝕄 := pLoc d ↦{q} (s d : Buf (Elt F) (pLoc d))

def pre (d : Dev nD) (L : grid0.Coords) : sProp 𝕄 :=
  iprop(nPts N d (qT L) ∗ pPts s d (qT L) ∗ (mLoc d ↦[blkM L]{fullShare} m (mLoc d)) ∗ (aLoc d ↦[blkM L]{fullShare} m (aLoc d))
    ∗ (cLoc d ↦[blkC L]{fullShare} m (cLoc d)))
def post (d : Dev nD) (L : grid0.Coords) : sProp 𝕄 :=
  iprop(nPts N d (qT L) ∗ pPts s d (qT L) ∗ (mLoc d ↦[blkM L]{fullShare} (partM (N d) (s d) : Buf (Elt F) (mLoc d)))
    ∗ (aLoc d ↦[blkM L]{fullShare} (partA (N d) (s d) : Buf (Elt F) (aLoc d)))
    ∗ (cLoc d ↦[blkC L]{fullShare} (partC (N d) (s d) : Buf (Elt F) (cLoc d))))

instance pre_storable (d : Dev nD) (L : grid0.Coords) : BI.Storable (upEmb : UEmb _ 𝕄) (pre m N s d L) := by
  unfold pre; infer_instance
instance post_storable (d : Dev nD) (L : grid0.Coords) : BI.Storable (upEmb : UEmb _ 𝕄) (post N s d L) := by
  unfold post; infer_instance

def coordsV (c : Fin (grid0.bound 0)) (i : Fin (grid0.bound 1)) : grid0.Coords :=
  fun | 0 => c | 1 => i | ⟨_ + 2, h⟩ => absurd h (Nat.not_lt.2 (Nat.le_add_left _ _))
/-- The coordinates of task `i` of SparseCore `c`. -/
abbrev coordsK (c : Fin ((K (F := F)).nCore 0)) (i : Fin ((K (F := F)).nSub 0)) : grid0.Coords := coordsV (Fin.cast nCore_zero c) (Fin.cast nSub_zero i)

/-- The one call: each SparseCore takes its sixteen tasks' pieces and brings back what they left. -/
def P : (K (F := F)).Pay (nD := nD) (Val := Elt F) (Name := ℕ) (U := UU) where
  st := fun q d => match q with | 0 => fun c => bigSep Finset.univ fun i : Fin ((K (F := F)).nSub 0) => pre m N s d (coordsK c i)
  dn := fun q d => match q with | 0 => fun c => bigSep Finset.univ fun i : Fin ((K (F := F)).nSub 0) => post N s d (coordsK c i)
  go := fun q d => match q with | 0 => fun c i => pre m N s d (coordsK c i)
  td := fun q d => match q with | 0 => fun c i => post N s d (coordsK c i)
  x := fun _ _ => iprop(emp)

instance P_storable : (P m N s).IsStorable where
  st q d := match q with
    | 0 => fun c => (inferInstance : BI.Storable (upEmb : UEmb _ 𝕄) (bigSep Finset.univ fun i : Fin ((K (F := F)).nSub 0) => pre m N s d (coordsK c i)))
  dn q d := match q with
    | 0 => fun c => (inferInstance : BI.Storable (upEmb : UEmb _ 𝕄) (bigSep Finset.univ fun i : Fin ((K (F := F)).nSub 0) => post N s d (coordsK c i)))
  go q d := match q with | 0 => fun c i => pre_storable m N s d _
  td q d := match q with | 0 => fun c i => post_storable N s d _

theorem vecSplit : (K (F := F)).VecSplit' (P m N s) 0 := by
  intro d c
  show (bigSep Finset.univ fun i : Fin ((K (F := F)).nSub 0) => pre m N s d (coordsK c i)) ⊢ |={Set.univ}=> iprop(
      (bigSep Finset.univ fun i : Fin ((K (F := F)).nSub 0) => pre m N s d (coordsK c i))
      ∗ ((bigSep Finset.univ fun i : Fin ((K (F := F)).nSub 0) => post N s d (coordsK c i))
          -∗ bigSep Finset.univ fun i : Fin ((K (F := F)).nSub 0) => post N s d (coordsK c i)))
  iintro H; imodintro
  isplitl [H]; · iexact H
  iintro H; iexact H

/-! ## A tile's own buffers and semaphores -/

section Own
variable (d : Dev nD) (L : grid0.Coords)

abbrev cell (d : Dev nD) (L : grid0.Coords) (x : DmaSems sig S_) : GSem nD τ sig := (V d (cV L) (jV L), .dma x.sem)

theorem ownSems0_V :
    ∃ R : sProp 𝕄, (ownSems0 (V d (cV L) (jV L)) : sProp 𝕄)
      = iprop(semVal (cell d L cc0_scoped0) 0 ∗ semVal (cell d L cc0_scoped1) 0 ∗ semVal (cell d L cc0_scoped3) 0
          ∗ semVal (cell d L cc0_scoped4) 0 ∗ semVal (cell d L cc0_scoped5) 0 ∗ R) := by
  have mem : ∀ x : DmaSems sig S_, (SemLoc.dma x.sem : SemLoc sig).isScoped .scVector = true → cell d L x ∈ ownCells (V d (cV L) (jV L)) :=
    fun x h => (mem_ownCells (g := cell d L x)).mpr ⟨rfl, h⟩
  have ne : ∀ x y : DmaSems sig S_, x.sem ≠ y.sem → cell d L x ≠ cell d L y := fun x y h e => h (by
    have := congrArg Prod.snd e; simpa [cell] using this)
  unfold SparseCore.Cfg.ownSems0
  refine ⟨bigSep ((((((ownCells (V d (cV L) (jV L))).erase (cell d L cc0_scoped0)).erase (cell d L cc0_scoped1)).erase (cell d L cc0_scoped3)).erase
    (cell d L cc0_scoped4)).erase (cell d L cc0_scoped5)) fun g => semVal g 0, ?_⟩
  rw [SparseCore.bigSep_erase' (mem cc0_scoped0 (by decide)),
    SparseCore.bigSep_erase' (Finset.mem_erase.mpr ⟨ne cc0_scoped1 cc0_scoped0 (by decide), mem cc0_scoped1 (by decide)⟩),
    SparseCore.bigSep_erase' (Finset.mem_erase.mpr ⟨ne cc0_scoped3 cc0_scoped1 (by decide), Finset.mem_erase.mpr ⟨ne cc0_scoped3 cc0_scoped0 (by decide), mem cc0_scoped3 (by decide)⟩⟩),
    SparseCore.bigSep_erase' (Finset.mem_erase.mpr ⟨ne cc0_scoped4 cc0_scoped3 (by decide), Finset.mem_erase.mpr ⟨ne cc0_scoped4 cc0_scoped1 (by decide),
      Finset.mem_erase.mpr ⟨ne cc0_scoped4 cc0_scoped0 (by decide), mem cc0_scoped4 (by decide)⟩⟩⟩),
    SparseCore.bigSep_erase' (Finset.mem_erase.mpr ⟨ne cc0_scoped5 cc0_scoped4 (by decide), Finset.mem_erase.mpr ⟨ne cc0_scoped5 cc0_scoped3 (by decide),
      Finset.mem_erase.mpr ⟨ne cc0_scoped5 cc0_scoped1 (by decide), Finset.mem_erase.mpr ⟨ne cc0_scoped5 cc0_scoped0 (by decide), mem cc0_scoped5 (by decide)⟩⟩⟩⟩)]

/-- A buffer of the tile's at some contents. -/
abbrev some' (d : Dev nD) (L : grid0.Coords) (r : Ref sig .scVector) : sProp 𝕄 := iprop(∃ f, (V d (cV L) (jV L)).loc r ↦{fullShare} f)

theorem ownBufs_V :
    ∃ R : sProp 𝕄, (ownBufs (V d (cV L) (jV L)) : sProp 𝕄)
      = iprop(some' d L cc0_scratch0 ∗ some' d L cc0_scratch1 ∗ some' d L cc0_scratch2 ∗ some' d L cc0_scratch3 ∗ some' d L cc0_scratch4 ∗ R) := by
  have mem : ∀ r : Ref sig .scVector, ((Proc.scVector (cV L) (jV L)).devRef r).owner = .proc (Proc.scVector (cV L) (jV L)) → (Proc.scVector (cV L) (jV L)).devRef r ∈ ownRefs (τ := τ) (.scVector (cV L) (jV L)) :=
    fun r h => SparseCore.Cfg.mem_ownRefs_of_owner (p := Proc.scVector (cV L) (jV L)) (b := (Proc.scVector (cV L) (jV L)).devRef r) h
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine ⟨bigSep ((((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4))
    fun b => iprop(∃ f, ((d, b) : Loc nD τ sig) ↦{fullShare} f), ?_⟩
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide), Finset.mem_erase.mpr ⟨ne cc0_scratch2 cc0_scratch0 (by decide), mem cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), mem cc0_scratch3 rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), mem cc0_scratch4 rfl⟩⟩⟩⟩)]

theorem unread_whole {κ : Kind} (r : Ref sig κ) (h : (Memref.whole r).IsWhole) (X : (Memref.whole r).view.ty.Contents (Elt F)) :
    h.unread X = X := (h.eq_unread (f := X) (X := X) rfl).symm
theorem holds_whole (r : Ref sig .scVector) (h : (Memref.whole r).IsWhole) (X : (Memref.whole r).view.ty.Contents (Elt F)) :
    (holds d L (Memref.whole r) h X : sProp 𝕄) = iprop((V d (cV L) (jV L)).loc r ↦{fullShare} X) := by
  unfold holds; rw [unread_whole]; try rfl
theorem kN_whole (q : PosShare TreeShare) (X : S50000x256.Idx → Elt F .f32) :
    (nLoc d ↦{q} (X : Buf (Elt F) (nLoc d)) : sProp 𝕄) = (kN.view.loc (thr d L) ↦{q} (Memref.isWhole_whole main_arg0_scv).unread X) := by
  rw [unread_whole]; try rfl
theorem kP_whole (q : PosShare TreeShare) (X : S50016.Idx → Elt F .i32) :
    (pLoc d ↦{q} (X : Buf (Elt F) (pLoc d)) : sProp 𝕄) = (kP.view.loc (thr d L) ↦{q} (Memref.isWhole_whole main_v0_scv).unread (Val := Elt F) X) := by
  rw [unread_whole]; try rfl

abbrev task : Prog (PE F L) PUnit :=
  tileP L kN kP kM kA kC kI (Memref.isWhole_whole _) kX (Memref.isWhole_whole _) sM (Memref.isWhole_whole _) sA (Memref.isWhole_whole _) sC (Memref.isWhole_whole _)
    cc0_scoped0 cc0_scoped1 cc0_scoped3 cc0_scoped4 cc0_scoped5

theorem tile_run (hs : OkIds (s d)) (hF : (K (F := F)).Facts) (O : CellTallies nD τ sig (HIx 1)) (W : Waits sig (HIx 1)) (hO : ∀ g, O g none = 0) :
    iprop(levAts (K (F := F)).L (K (F := F)).lev ∗ emp ∗ pre m N s d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (task L)
          fun _ => iprop(post N s d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨R1, e1⟩ := ownSems0_V (F := F) d L
  obtain ⟨R2, e2⟩ := ownBufs_V (F := F) d L
  rw [(K (F := F)).scopedBufs_V hF d (cV L) (jV L), SparseCore.Cfg.scopedSems0_V (Val := Elt F) d (cV L) (jV L), e1, e2]
  unfold pre post
  iintro ⟨#Hlv, -, ⟨Hn, Hp, Hm, Ha, Hc⟩, ⟨⟨%f0, H0⟩, ⟨%f1, H1⟩, ⟨%f2, H2⟩, ⟨%f3, H3⟩, ⟨%f4, H4⟩, Hbufs⟩, ⟨Hv0, Hv1, Hv3, Hv4, Hv5, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_tileP (F := F) d L kN (Memref.isWhole_whole _) kP (Memref.isWhole_whole _) kM kA kC kI (Memref.isWhole_whole _) kX (Memref.isWhole_whole _)
    sM (Memref.isWhole_whole _) sA (Memref.isWhole_whole _) sC (Memref.isWhole_whole _) cc0_scoped0 cc0_scoped1 cc0_scoped3 cc0_scoped4 cc0_scoped5
    O W (qT L) (m (mLoc d)) (m (aLoc d)) (m (cLoc d)) (qT L) (N d) (s d) hs f0 f1 f2 f3 f4 _)
  isplitl [Hn]; · iapply (Entails.of_eq (kN_whole d L (qT L) (N d))); iexact Hn
  isplitl [Hp]; · iapply (Entails.of_eq (kP_whole d L (qT L) (s d))); iexact Hp
  isplitl [Hm]; · iexact Hm
  isplitl [Ha]; · iexact Ha
  isplitl [Hc]; · iexact Hc
  isplitl [H0]; · iapply (Entails.of_eq (holds_whole d L cc0_scratch0 (Memref.isWhole_whole _) f0).symm); iexact H0
  isplitl [H1]; · iapply (Entails.of_eq (holds_whole d L cc0_scratch1 (Memref.isWhole_whole _) f1).symm); iexact H1
  isplitl [H2]; · iapply (Entails.of_eq (holds_whole d L cc0_scratch2 (Memref.isWhole_whole _) f2).symm); iexact H2
  isplitl [H3]; · iapply (Entails.of_eq (holds_whole d L cc0_scratch3 (Memref.isWhole_whole _) f3).symm); iexact H3
  isplitl [H4]; · iapply (Entails.of_eq (holds_whole d L cc0_scratch4 (Memref.isWhole_whole _) f4).symm); iexact H4
  isplitl [Hv0]; · iexact Hv0
  isplitl [Hv1]; · iexact Hv1
  isplitl [Hv3]; · iexact Hv3
  isplitl [Hv4]; · iexact Hv4
  isplitl [Hv5]; · iexact Hv5
  isplitr; · iexact Hmw
  isplitl [HO]
  · unfold owesW
    iexists W; isplitr; · ipureintro; exact fun p h => Or.inl h
    iexact HO
  unfold accs holds owesW
  iintro ⟨%X, Hn, Hp, Hm, Ha, Hc, H0, H1, ⟨H2, H3, H4⟩, Hv0, Hv1, Hv3, Hv4, Hv5, HO⟩
  isplitl [Hn Hp Hm Ha Hc]
  · isplitl [Hn]; · iapply (Entails.of_eq (kN_whole d L (qT L) (N d)).symm); iexact Hn
    isplitl [Hp]; · iapply (Entails.of_eq (kP_whole d L (qT L) (s d)).symm); iexact Hp
    isplitl [Hm]
    · iapply (Entails.of_eq (pointsTo_congr (ℓ := mLoc d) (I := blkM L) (q := fullShare) fun y hy => writeM (N d) (s d) L (m (mLoc d)) hy)); iexact Hm
    isplitl [Ha]
    · iapply (Entails.of_eq (pointsTo_congr (ℓ := aLoc d) (I := blkM L) (q := fullShare) fun y hy => writeA (N d) (s d) L (m (aLoc d)) hy)); iexact Ha
    iapply (Entails.of_eq (pointsTo_congr (ℓ := cLoc d) (I := blkC L) (q := fullShare) fun y hy => writeC (N d) (s d) L (m (cLoc d)) hy)); iexact Hc
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hv0 Hv1 Hv3 Hv4 Hv5 Hsems]
  · isplitl [Hv0]; · iexact Hv0
    isplitl [Hv1]; · iexact Hv1
    isplitl [Hv3]; · iexact Hv3
    isplitl [Hv4]; · iexact Hv4
    isplitl [Hv5]; · iexact Hv5
    iexact Hsems
  iexact HO

end Own

end Cert.Proof.KernelIdeal
-- ==== Proof.Ideal.Body.lean ====
module

public import proofs.«01_k».proof.Proof.Ideal.Clean

@[expose] public section

noncomputable section

namespace Cert.Proof.KernelIdeal

open Cert.KernelIdeal Cert.KernelIdeal.Gen
open Idealize.ShloMosaic Idealize.SL.Sem

variable {F : FTy → Type} [FloatOps F]

theorem op_congr {E : Type → Type} {α β : Type} (e : E α) {k k' : α → Prog E β} (h : ∀ x, k x = k' x) :
    Prog.op e k = Prog.op e k' := congrArg _ (funext h)

theorem dite_jp₂ {E : Type → Type} {β γ δ : Type} {c : Prop} [Decidable c] {J : Prog E β} {g : β → Prog E γ} {g' : γ → Prog E δ}
    {J' : Prog E δ} {tt : c → Prog E β} {t' : c → Prog E PUnit} (hJ : ((J >>= g) >>= g') = J') (ht : ∀ h, tt h = t' h >>= fun _ => J) :
    ((dite c tt (fun _ => J) >>= g) >>= g') = (dite c t' (fun _ => pure ⟨⟩) >>= fun _ => J') := by
  subst hJ
  by_cases h : c
  · rw [dif_pos h, dif_pos h, ht, Prog.bind_assoc, Prog.bind_assoc]
    exact congrArg _ (funext fun _ => (Prog.bind_assoc _ _ _).symm)
  · rw [dif_neg h, dif_neg h]; rfl

theorem dite_jp₁ {E : Type → Type} {β γ : Type} {c : Prop} [Decidable c] {J : Prog E β} {g : β → Prog E γ}
    {J' : Prog E γ} {tt : c → Prog E β} {t' : c → Prog E PUnit} (hJ : (J >>= g) = J') (ht : ∀ h, tt h = t' h >>= fun _ => J) :
    (dite c tt (fun _ => J) >>= g) = (dite c t' (fun _ => pure ⟨⟩) >>= fun _ => J') := by
  subst hJ
  by_cases h : c
  · rw [dif_pos h, dif_pos h, ht, Prog.bind_assoc]
  · rw [dif_neg h, dif_neg h]; rfl

variable (i : grid0.Coords) (arg2 : Memref sig .scVector .hbm S50000x256 .f32) (harg2 : arg2.IsWhole) (arg3 : Memref sig .scVector .hbm S50016 .i32) (harg3 : arg3.IsWhole) (arg4 : Memref sig .scVector .hbm S32x128x256 .f32) (harg4 : arg4.IsWhole) (arg5 : Memref sig .scVector .hbm S32x128x256 .f32) (harg5 : arg5.IsWhole) (arg6 : Memref sig .scVector .hbm S32x128x16 .f32) (harg6 : arg6.IsWhole) (arg7 : Memref sig .scVector .vmem S1568 .i32) (harg7 : arg7.IsWhole) (arg8 : Memref sig .scVector .vmem S16x256 .f32) (harg8 : arg8.IsWhole) (arg9 : Memref sig .scVector .vmem S128x256 .f32) (harg9 : arg9.IsWhole) (arg10 : Memref sig .scVector .vmem S128x256 .f32) (harg10 : arg10.IsWhole) (arg11 : Memref sig .scVector .vmem S128x16 .f32) (harg11 : arg11.IsWhole)
  (v186_r0 : DmaSems sig S_) (v2128_r1 : DmaSems sig S_) (v2128_r2 : DmaSems sig S_) (v186_r3 : DmaSems sig S_) (v186_r4 : DmaSems sig S_) (v186_r5 : DmaSems sig S_)

set_option maxRecDepth 65536 in
set_option maxHeartbeats 4000000 in
theorem t2_body_eq (v4 : BitVec 32) (t : Fin (k0_t2_loop i).trips) (st : St F) :
    k0_t2_body i arg2 harg2 arg3 harg3 arg4 harg4 arg5 harg5 arg6 harg6 arg7 harg7 arg8 harg8 arg9 harg9 arg10 harg10 arg11 harg11 v186_r0 v2128_r1 v2128_r2 v186_r3 v186_r4 v186_r5 v4 t st.tup
      = groupP i arg2 arg7 arg8 arg9 arg10 arg11 harg8 v2128_r1 t st := by
  iterate 3 refine op_congr _ fun _ => ?_
  iterate 16
    refine op_congr _ fun h => ?_
    first
      | refine dite_jp₂ ?_ (fun h => ?_); rotate_left; · (iterate 66 refine op_congr _ fun _ => ?_); rfl
      | refine dite_jp₁ ?_ (fun h => ?_); rotate_left; · (iterate 66 refine op_congr _ fun _ => ?_); rfl
    iterate 16 refine op_congr _ fun _ => ?_
  rfl

end Cert.Proof.KernelIdeal
-- ==== Proof.Ideal.Whole.lean ====
/-
  The printed task IS the program of Task.lean: `body_eq`.
-/
module

public import proofs.«01_k».proof.Proof.Ideal.Task
public import proofs.«01_k».proof.Proof.Ideal.Body

@[expose] public section

noncomputable section

namespace Cert.Proof.KernelIdeal

open Cert.KernelIdeal Cert.KernelIdeal.Gen
open Idealize.ShloMosaic Idealize.SL.Sem

variable {F : FTy → Type} [FloatOps F]

theorem bind_step {E : Type → Type} {β γ δ : Type} {L L' : Prog E β} {f : β → Prog E γ} {g : γ → Prog E δ} {f' : β → Prog E δ}
    (hL : L = L') (h : ∀ x, (f x >>= g) = f' x) : ((L >>= f) >>= g) = (L' >>= f') := by
  subst hL
  rw [Prog.bind_assoc]
  exact congrArg _ (funext h)

theorem for_zero {E : Type → Type} {σ : Type} (l : Scf.Loop 32) (hok : l.OK) (h : l.trips ≤ 0) (init : σ) (body : Fin l.trips → σ → Prog E σ) :
    l.for hok init body = pure init := by
  show Scf.for l.lb l.ub l.st hok init body = _
  rw [Scf.for_eq]
  have h0 : List.finRange l.trips = [] := by
    rw [List.finRange_eq_nil_iff]; omega
  rw [h0]; rfl

variable (i : grid0.Coords) (arg2 : Memref sig .scVector .hbm S50000x256 .f32) (harg2 : arg2.IsWhole) (arg3 : Memref sig .scVector .hbm S50016 .i32) (harg3 : arg3.IsWhole) (arg4 : Memref sig .scVector .hbm S32x128x256 .f32) (harg4 : arg4.IsWhole) (arg5 : Memref sig .scVector .hbm S32x128x256 .f32) (harg5 : arg5.IsWhole) (arg6 : Memref sig .scVector .hbm S32x128x16 .f32) (harg6 : arg6.IsWhole) (arg7 : Memref sig .scVector .vmem S1568 .i32) (harg7 : arg7.IsWhole) (arg8 : Memref sig .scVector .vmem S16x256 .f32) (harg8 : arg8.IsWhole) (arg9 : Memref sig .scVector .vmem S128x256 .f32) (harg9 : arg9.IsWhole) (arg10 : Memref sig .scVector .vmem S128x256 .f32) (harg10 : arg10.IsWhole) (arg11 : Memref sig .scVector .vmem S128x16 .f32) (harg11 : arg11.IsWhole)
  (v186_r0 : DmaSems sig S_) (v2128_r1 : DmaSems sig S_) (v2128_r2 : DmaSems sig S_) (v186_r3 : DmaSems sig S_) (v186_r4 : DmaSems sig S_) (v186_r5 : DmaSems sig S_)

set_option maxRecDepth 65536 in
set_option maxHeartbeats 4000000 in
theorem t1_body_eq (t : Fin k0_t1_loop.trips) (u : Unit) :
    k0_t1_body (F := F) i arg2 harg2 arg3 harg3 arg4 harg4 arg5 harg5 arg6 harg6 arg7 harg7 arg8 harg8 arg9 harg9 arg10 harg10 arg11 harg11 v186_r0 v2128_r1 v2128_r2 v186_r3 v186_r4 v186_r5 t u
      = initRow i arg9 arg10 arg11 t := by
  iterate 66 refine op_congr _ fun _ => ?_
  rfl

set_option maxRecDepth 65536 in
set_option maxHeartbeats 4000000 in
theorem body_eq :
    cc0__phase1_body (F := F) i arg2 harg2 arg3 harg3 arg4 harg4 arg5 harg5 arg6 harg6 arg7 harg7 arg8 harg8 arg9 harg9 arg10 harg10 arg11 harg11 v186_r0 v2128_r1 v2128_r2 v186_r3 v186_r4 v186_r5
      = tileP i arg2 arg3 arg4 arg5 arg6 arg7 harg7 arg8 harg8 arg9 harg9 arg10 harg10 arg11 harg11 v186_r0 v2128_r1 v186_r3 v186_r4 v186_r5 := by
  rw [cc0__phase1_body_eq_skeleton]
  unfold cc0__phase1_body_skel
  rw [k0_part219_eq_skeleton]
  refine op_congr _ fun _ => ?_
  refine op_congr _ fun _ => ?_
  refine bind_step (L := Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 v186_r0 v2128_r1 v2128_r2 v186_r3 v186_r4 v186_r5)) (congrArg (Scf.Loop.for k0_t1_loop k0_t1_ok ⟨⟩) (funext fun t => funext fun u => t1_body_eq i arg2 harg2 arg3 harg3 arg4 harg4 arg5 harg5 arg6 harg6 arg7 harg7 arg8 harg8 arg9 harg9 arg10 harg10 arg11 harg11 v186_r0 v2128_r1 v2128_r2 v186_r3 v186_r4 v186_r5 t u)) fun _ => ?_
  refine bind_step (congrArg (Scf.Loop.for (k0_t2_loop i) (k0_t2_ok i) (St.init (F := F)).tup) (funext fun t => funext fun u => t2_body_eq i arg2 harg2 arg3 harg3 arg4 harg4 arg5 harg5 arg6 harg6 arg7 harg7 arg8 harg8 arg9 harg9 arg10 harg10 arg11 harg11 v186_r0 v2128_r1 v2128_r2 v186_r3 v186_r4 v186_r5 _ t (ofTup u))) fun u => ?_
  refine (bind_step (L' := pure u) (for_zero _ _ (k0_t3_abs i).2.1 _ _) fun u => ?_).trans (b := pure u >>= fun u => lastP i arg4 arg5 arg6 arg9 harg9 arg10 harg10 arg11 harg11 v186_r3 v186_r4 v186_r5 u) rfl
  refine op_congr _ fun _ => ?_
  iterate 66 refine op_congr _ fun _ => ?_
  rfl

end Cert.Proof.KernelIdeal
-- ==== Proof.Ideal.Launch.lean ====
/-
  The segment kernel's launch: every tile's obligation, and the call's arrays dealt to the thirty-two tiles and taken back.
-/
module

public import proofs.«01_k».proof.Proof.Ideal.Deal
public import proofs.«01_k».proof.Proof.Ideal.Whole

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ)
variable (N : Dev nD → S50000x256.Idx → Elt F .f32) (s : Dev nD → S50016.Idx → BitVec 32)

/-! ## The tiles' obligation -/

theorem defs₀_vector (c : Fin τ.nSC) (i : Fin τ.nSub) :
    defs₀ (F := F) (.scVector c i) 0 ()
      = SparseCore.onTile hcore0 hsub0 (fun c i => cc0__phase1_body (coordsV c i) kN (Memref.isWhole_whole _) kP (Memref.isWhole_whole _)
          kM (Memref.isWhole_whole _) kA (Memref.isWhole_whole _) kC (Memref.isWhole_whole _) kI (Memref.isWhole_whole _) kX (Memref.isWhole_whole _)
          sM (Memref.isWhole_whole _) sA (Memref.isWhole_whole _) sC (Memref.isWhole_whole _)
          cc0_scoped0 cc0_scoped1 cc0_scoped2 cc0_scoped3 cc0_scoped4 cc0_scoped5) ⟨⟩ c i := rfl

theorem tileObl (hs : ∀ d, OkIds (s d)) (hF : (K (F := F)).Facts) : (K (F := F)).TileObl (D (F := F)) 𝒱 (P m N s) v₀ 0 := by
  intro d c i O W hO _ _
  simp only [show (P m N s).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_run m N s d (coordsV ⟨_, hci.1⟩ ⟨_, hci.2⟩) (hs d) hF O W hO

/-! ## The arrays over the tiles -/

/-- The elements of tile `w`'s block. -/
def blkWM (w : Fin 32) : Finset S32x128x256.Idx := Finset.univ.filter fun y => (y 0).val = w.val
def blkWC (w : Fin 32) : Finset S32x128x16.Idx := Finset.univ.filter fun y => (y 0).val = w.val

theorem blkM_eq (L : grid0.Coords) : blkM L = blkWM (wF L) := by
  ext y; rw [mem_blkM]; exact ⟨fun h => Finset.mem_filter.mpr ⟨Finset.mem_univ _, h⟩, fun h => (Finset.mem_filter.mp h).2⟩
theorem blkC_eq (L : grid0.Coords) : blkC L = blkWC (wF L) := by
  ext y; rw [mem_blkC]; exact ⟨fun h => Finset.mem_filter.mpr ⟨Finset.mem_univ _, h⟩, fun h => (Finset.mem_filter.mp h).2⟩

theorem disjM : ∀ i ∈ (Finset.univ : Finset (Fin 32)), ∀ j ∈ (Finset.univ : Finset (Fin 32)), i ≠ j → Disjoint (blkWM i) (blkWM j) :=
  fun i _ j _ h => Finset.disjoint_left.mpr fun y hi hj => h (Fin.ext ((Finset.mem_filter.mp hi).2.symm.trans (Finset.mem_filter.mp hj).2))
theorem disjC : ∀ i ∈ (Finset.univ : Finset (Fin 32)), ∀ j ∈ (Finset.univ : Finset (Fin 32)), i ≠ j → Disjoint (blkWC i) (blkWC j) :=
  fun i _ j _ h => Finset.disjoint_left.mpr fun y hi hj => h (Fin.ext ((Finset.mem_filter.mp hi).2.symm.trans (Finset.mem_filter.mp hj).2))
theorem coverM : (Finset.univ : Finset (Fin 32)).biUnion blkWM = Finset.univ := by
  ext y; simp only [Finset.mem_biUnion, Finset.mem_univ, true_and, iff_true]
  exact ⟨⟨(y 0).val, (y 0).isLt⟩, Finset.mem_filter.mpr ⟨Finset.mem_univ _, rfl⟩⟩
theorem coverC : (Finset.univ : Finset (Fin 32)).biUnion blkWC = Finset.univ := by
  ext y; simp only [Finset.mem_biUnion, Finset.mem_univ, true_and, iff_true]
  exact ⟨⟨(y 0).val, (y 0).isLt⟩, Finset.mem_filter.mpr ⟨Finset.mem_univ _, rfl⟩⟩

/-- The tiles of the two SparseCores are the thirty-two tiles. -/
theorem bigSep_tiles (Φ : Fin 32 → sProp 𝕄) :
    (bigSep Finset.univ fun c : Fin ((K (F := F)).nCore 0) => bigSep Finset.univ fun i : Fin ((K (F := F)).nSub 0) => Φ (wF (coordsK c i)))
      = bigSep Finset.univ Φ := by
  rw [← bigSep_univ_prod fun p : Fin ((K (F := F)).nCore 0) × Fin ((K (F := F)).nSub 0) => Φ (wF (coordsK p.1 p.2))]
  have e : (Finset.univ : Finset (Fin 32)) = (Finset.univ : Finset (Fin 2 × Fin 16)).map finProdFinEquiv.toEmbedding := by
    ext x; simp
  rw [e, bigSep_map]
  refine bigSep_congr fun p _ => congrArg Φ (Fin.ext ?_)
  show wOf (coordsK p.1 p.2) = (finProdFinEquiv (p : Fin 2 × Fin 16)).val
  rw [finProdFinEquiv_apply_val]
  show _ = p.2.val + 16 * p.1.val
  unfold wOf
  show 16 * p.1.val + p.2.val = _
  omega

theorem deal_eq (d : Dev nD) (Φ₁ Φ₂ Φ₃ Φ₄ Φ₅ : Fin 32 → sProp 𝕄) :
    (bigSep Finset.univ fun w : Fin 32 => iprop(Φ₁ w ∗ Φ₂ w ∗ Φ₃ w ∗ Φ₄ w ∗ Φ₅ w))
      = iprop(bigSep Finset.univ Φ₁ ∗ bigSep Finset.univ Φ₂ ∗ bigSep Finset.univ Φ₃ ∗ bigSep Finset.univ Φ₄ ∗ bigSep Finset.univ Φ₅) := by
  rw [bigSep_sep', bigSep_sep', bigSep_sep', bigSep_sep']

theorem whole_M (d : Dev nD) (f : Buf (Elt F) (mLoc d)) :
    (bigSep Finset.univ fun w : Fin 32 => (mLoc d ↦[blkWM w]{fullShare} f : sProp 𝕄)) = (mLoc d ↦{fullShare} f) := by
  rw [← pointsTo_biUnion (ℓ := mLoc d) Finset.univ blkWM disjM, coverM]; try rfl
theorem whole_A (d : Dev nD) (f : Buf (Elt F) (aLoc d)) :
    (bigSep Finset.univ fun w : Fin 32 => (aLoc d ↦[blkWM w]{fullShare} f : sProp 𝕄)) = (aLoc d ↦{fullShare} f) := by
  rw [← pointsTo_biUnion (ℓ := aLoc d) Finset.univ blkWM disjM, coverM]; try rfl
theorem whole_C (d : Dev nD) (f : Buf (Elt F) (cLoc d)) :
    (bigSep Finset.univ fun w : Fin 32 => (cLoc d ↦[blkWC w]{fullShare} f : sProp 𝕄)) = (cLoc d ↦{fullShare} f) := by
  rw [← pointsTo_biUnion (ℓ := cLoc d) Finset.univ blkWC disjC, coverC]; try rfl
theorem whole_N (d : Dev nD) :
    (bigSep Finset.univ fun w : Fin 32 => (nPts N d (Transfers.dealOf fullShare (Finset.univ : Finset (Fin 32)) w) : sProp 𝕄)) = nPts N d fullShare :=
  (Transfers.pointsTo_deal (ℓ := nLoc d) (Finset.univ : Finset (Fin 32)) ⟨0, Finset.mem_univ _⟩ fullShare).symm
theorem whole_P (d : Dev nD) :
    (bigSep Finset.univ fun w : Fin 32 => (pPts s d (Transfers.dealOf fullShare (Finset.univ : Finset (Fin 32)) w) : sProp 𝕄)) = pPts s d fullShare :=
  (Transfers.pointsTo_deal (ℓ := pLoc d) (Finset.univ : Finset (Fin 32)) ⟨0, Finset.mem_univ _⟩ fullShare).symm

/-- What the call takes is the two arrays read and the three written, whole. -/
theorem st_all (d : Dev nD) :
    (bigSep Finset.univ fun c : Fin ((K (F := F)).nCore 0) => (P m N s).st 0 d c)
      = iprop(nPts N d fullShare ∗ pPts s d fullShare ∗ (mLoc d ↦{fullShare} m (mLoc d)) ∗ (aLoc d ↦{fullShare} m (aLoc d)) ∗ (cLoc d ↦{fullShare} m (cLoc d))) := by
  rw [← whole_N, ← whole_P, ← whole_M, ← whole_A, ← whole_C, ← deal_eq d, ← bigSep_tiles]
  refine bigSep_congr fun c _ => ?_
  show (bigSep Finset.univ fun i : Fin ((K (F := F)).nSub 0) => pre m N s d (coordsK c i)) = _
  refine bigSep_congr fun i _ => ?_
  unfold pre
  rw [blkM_eq, blkC_eq]

/-- What the call brings back: the same arrays, the results at every tile's accumulators. -/
theorem dn_all (d : Dev nD) :
    (bigSep Finset.univ fun c : Fin ((K (F := F)).nCore 0) => (P m N s).dn 0 d c)
      = iprop(nPts N d fullShare ∗ pPts s d fullShare ∗ (mLoc d ↦{fullShare} (partM (N d) (s d) : Buf (Elt F) (mLoc d)))
        ∗ (aLoc d ↦{fullShare} (partA (N d) (s d) : Buf (Elt F) (aLoc d))) ∗ (cLoc d ↦{fullShare} (partC (N d) (s d) : Buf (Elt F) (cLoc d)))) := by
  rw [← whole_N, ← whole_P, ← whole_M, ← whole_A, ← whole_C, ← deal_eq d, ← bigSep_tiles]
  refine bigSep_congr fun c _ => ?_
  show (bigSep Finset.univ fun i : Fin ((K (F := F)).nSub 0) => post N s d (coordsK c i)) = _
  refine bigSep_congr fun i _ => ?_
  unfold post
  rw [blkM_eq, blkC_eq]

end Cert.Proof.KernelIdeal

end
-- ==== Proof.Ideal.Region.lean ====
/-
  The TensorCore's combine: its body run from the six staging buffers, and its region as one step of @main from the arrays
  it reads and writes.
-/
module

public import proofs.«01_k».proof.Proof.Ideal.Deal
public import proofs.«01_k».proof.Proof.Gen.KernelIdeal.Points
public import proofs.«01_k».proof.Proof.Gen.KernelIdeal.Skeleton
public import Idealize.ShloMosaic.Lib.Pipeline.RegionArrays
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- A TensorCore buffer of device `d` held whole. -/
abbrev tp (d : Dev nD) (b : Ref sig .tc) (f : b.ty.Contents (Elt F)) : sProp 𝕄 := (SparseCore.T d).loc b ↦{fullShare} (f : Buf (Elt F) ((SparseCore.T d).loc b))

/-- A program that is done. -/
theorem wp_ret {Λ : Labels} {defs : Defs nD τ sig (Elt F) Λ} {𝒱 : Variants} {thr : Thread nD τ} {bd : Option 𝒱.V} {α : Type} (a : α) (Q : α → sProp 𝕄) :
    Q a ⊢ wp frame (wpE defs 𝒱 thr bd) Set.univ (pure a) Q :=
  BI.fupd_intro.trans (Entails.of_eq (wp_pure (Fr := frame) (wpE := wpE defs 𝒱 thr bd) (E := Set.univ) (a := a) (Q := Q)).symm)

/-! ## The body -/

theorem combine_run (d : Dev nD) (f0 f1 : S32x128x256.Idx → Elt F .f32) (f2 : S32x128x16.Idx → Elt F .f32) (f3 f4 : S1x512.Idx → Elt F .f32)
    (f5 : S128x512.Idx → Elt F .f32) (Q : PUnit → sProp 𝕄) :
    iprop(tp d cc1_stg0_0 f0 ∗ tp d cc1_stg1_0 f1 ∗ tp d cc1_stg2_0 f2 ∗ tp d cc1_stg3_0 f3 ∗ tp d cc1_stg4_0 f4 ∗ tp d cc1_stg5_0 f5
        ∗ (iprop(tp d cc1_stg0_0 f0 ∗ tp d cc1_stg1_0 f1 ∗ tp d cc1_stg2_0 f2 ∗ tp d cc1_stg3_0 f3 ∗ tp d cc1_stg4_0 f4 ∗ tp d cc1_stg5_0 (k1_pay1 f0 f1 f2 f3 f4)) -∗ Q ⟨⟩))
      ⊢ wp frame (wpE (defs₀ (F := F)) 𝒱₀ (SparseCore.T d) none) Set.univ
          (cc1__combine_body (F := F) (Memref.whole cc1_stg0_0) (Memref.isWhole_whole _) (Memref.whole cc1_stg1_0) (Memref.isWhole_whole _)
            (Memref.whole cc1_stg2_0) (Memref.isWhole_whole _) (Memref.whole cc1_stg3_0) (Memref.isWhole_whole _) (Memref.whole cc1_stg4_0) (Memref.isWhole_whole _)
            (Memref.whole cc1_stg5_0) (Memref.isWhole_whole _)) Q := by
  rw [cc1__combine_body_eq_skeleton]; unfold cc1__combine_body_skel
  have z3 : (![0, 0, 0] : Fin 3 → ℕ) = fun _ => 0 := by funext a; fin_cases a <;> rfl
  have z2 : (![0, 0] : Fin 2 → ℕ) = fun _ => 0 := by funext a; fin_cases a <;> rfl
  iintro ⟨H0, H1, H2, H3, H4, H5, Hk⟩
  iapply (wp_load 𝒱₀ (SparseCore.T d) none Set.univ (m := Memref.whole cc1_stg0_0) (S := Finset.univ) (q := fullShare) (f := f0) (Finset.subset_univ _)) $$ H0
  iintro H0
  iapply (wp_load 𝒱₀ (SparseCore.T d) none Set.univ (m := Memref.whole cc1_stg1_0) (S := Finset.univ) (q := fullShare) (f := f1) (Finset.subset_univ _)) $$ H1
  iintro H1
  iapply (wp_load 𝒱₀ (SparseCore.T d) none Set.univ (m := Memref.whole cc1_stg2_0) (S := Finset.univ) (q := fullShare) (f := f2) (Finset.subset_univ _)) $$ H2
  iintro H2
  iapply (wp_load 𝒱₀ (SparseCore.T d) none Set.univ (m := Memref.whole cc1_stg3_0) (S := Finset.univ) (q := fullShare) (f := f3) (Finset.subset_univ _)) $$ H3
  iintro H3
  iapply (wp_load 𝒱₀ (SparseCore.T d) none Set.univ (m := Memref.whole cc1_stg4_0) (S := Finset.univ) (q := fullShare) (f := f4) (Finset.subset_univ _)) $$ H4
  iintro H4
  iapply (wp_load 𝒱₀ (SparseCore.T d) none Set.univ (m := Memref.whole cc1_stg5_0) (S := Finset.univ) (q := fullShare) (f := f5) (Finset.subset_univ _)) $$ H5
  iintro H5
  iapply (wp_store 𝒱₀ (SparseCore.T d) none Set.univ (m := Memref.whole cc1_stg5_0) (r := Rect.unit (s := S128x512) ![0, 0] S128x512.size inb_S128x512_S128x512_0_0) (S := Finset.univ) (f := f5) (Finset.subset_univ _)) $$ H5
  iintro H5
  have e0 : View.readAt (Elt F) (Memref.whole cc1_stg0_0).view (Rect.unit (s := S32x128x256) ![0, 0, 0] S32x128x256.size inb_S32x128x256_S32x128x256_0_0_0).toLoadRect f0 = f0 :=
    Memref.readAt_unit_zero (Elt F) cc1_stg0_0 z3 _ f0
  have e1 : View.readAt (Elt F) (Memref.whole cc1_stg1_0).view (Rect.unit (s := S32x128x256) ![0, 0, 0] S32x128x256.size inb_S32x128x256_S32x128x256_0_0_0).toLoadRect f1 = f1 :=
    Memref.readAt_unit_zero (Elt F) cc1_stg1_0 z3 _ f1
  have e2 : View.readAt (Elt F) (Memref.whole cc1_stg2_0).view (Rect.unit (s := S32x128x16) ![0, 0, 0] S32x128x16.size inb_S32x128x16_S32x128x16_0_0_0).toLoadRect f2 = f2 :=
    Memref.readAt_unit_zero (Elt F) cc1_stg2_0 z3 _ f2
  have e3 : View.readAt (Elt F) (Memref.whole cc1_stg3_0).view (Rect.unit (s := S1x512) ![0, 0] S1x512.size inb_S1x512_S1x512_0_0).toLoadRect f3 = f3 :=
    Memref.readAt_unit_zero (Elt F) cc1_stg3_0 z2 _ f3
  have e4 : View.readAt (Elt F) (Memref.whole cc1_stg4_0).view (Rect.unit (s := S1x512) ![0, 0] S1x512.size inb_S1x512_S1x512_0_0).toLoadRect f4 = f4 :=
    Memref.readAt_unit_zero (Elt F) cc1_stg4_0 z2 _ f4
  have e5 : ∀ w, View.write (Elt F) ((Memref.whole cc1_stg5_0).access (Rect.unit (s := S128x512) ![0, 0] S128x512.size inb_S128x512_S128x512_0_0)) f5 w Finset.univ = w :=
    fun w => Memref.write_access_unit_zero_univ (Elt F) cc1_stg5_0 z2 _ f5 w
  rw [e5, e0, e1, e2, e3, e4]
  iapply (wp_ret ⟨⟩ Q)
  iapply Hk
  isplitl [H0]; · iexact H0
  isplitl [H1]; · iexact H1
  isplitl [H2]; · iexact H2
  isplitl [H3]; · iexact H3
  isplitl [H4]; · iexact H4
  iexact H5

/-! ## The region's data -/

/-- What the six arrays hold when the region is entered. -/
structure Ent (F : FTy → Type) where
  M : S32x128x256.Idx → Elt F .f32
  A : S32x128x256.Idx → Elt F .f32
  C : S32x128x16.Idx → Elt F .f32
  g : S1x512.Idx → Elt F .f32
  b : S1x512.Idx → Elt F .f32
  o : S128x512.Idx → Elt F .f32

variable (e : Dev nD → Ent F)

/-- The combined output. -/
def comb (x : Ent F) : S128x512.Idx → Elt F .f32 := k1_pay1 x.M x.A x.C x.g x.b

def arrE (c : Dev nD) : (w : Fin cfg1.W) → Buf (Elt F) ((cfg1.win w).arr.view.loc (c : Thread nD τ))
  | ⟨0, _⟩ => (e c).M
  | ⟨1, _⟩ => (e c).A
  | ⟨2, _⟩ => (e c).C
  | ⟨3, _⟩ => (e c).g
  | ⟨4, _⟩ => (e c).b
  | ⟨5, _⟩ => (e c).o

def dat1 (c : Dev nD) : Pipeline.Dat τ (Elt F) (HIx 1) ℕ UU ℕ cfg1 c where
  A w := arrE e c w
  after w _ := match w with
    | ⟨0, _⟩ => (e c).M
    | ⟨1, _⟩ => (e c).A
    | ⟨2, _⟩ => (e c).C
    | ⟨3, _⟩ => (e c).g
    | ⟨4, _⟩ => (e c).b
    | ⟨5, _⟩ => comb (e c)
  Φ _ := iprop(emp)
  q _ := fullShare
  owed _ := 0

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat1 e

theorem before_0 (c : Dev nD) (x) : (dat1 e c).before 0 t1_0 x = (e c).M := by
  have h : ∀ a, win1_0.index t1_0 a = 0 := by decide +kernel
  unfold Pipeline.Dat.before; rw [if_pos (fetch1_0 _)]
  show ((cfg1.win 0).blk t1_0).view.read (Elt F) (arrE e c 0) = _
  funext j; blk_simp; exact congrArg (e c).M (by blk_ext [h])
theorem before_1 (c : Dev nD) (x) : (dat1 e c).before 1 t1_0 x = (e c).A := by
  have h : ∀ a, win1_1.index t1_0 a = 0 := by decide +kernel
  unfold Pipeline.Dat.before; rw [if_pos (fetch1_1 _)]
  show ((cfg1.win 1).blk t1_0).view.read (Elt F) (arrE e c 1) = _
  funext j; blk_simp; exact congrArg (e c).A (by blk_ext [h])
theorem before_2 (c : Dev nD) (x) : (dat1 e c).before 2 t1_0 x = (e c).C := by
  have h : ∀ a, win1_2.index t1_0 a = 0 := by decide +kernel
  unfold Pipeline.Dat.before; rw [if_pos (fetch1_2 _)]
  show ((cfg1.win 2).blk t1_0).view.read (Elt F) (arrE e c 2) = _
  funext j; blk_simp; exact congrArg (e c).C (by blk_ext [h])
theorem before_3 (c : Dev nD) (x) : (dat1 e c).before 3 t1_0 x = (e c).g := by
  have h : ∀ a, win1_3.index t1_0 a = 0 := by decide +kernel
  unfold Pipeline.Dat.before; rw [if_pos (fetch1_3 _)]
  show ((cfg1.win 3).blk t1_0).view.read (Elt F) (arrE e c 3) = _
  funext j; blk_simp; exact congrArg (e c).g (by blk_ext [h])
theorem before_4 (c : Dev nD) (x) : (dat1 e c).before 4 t1_0 x = (e c).b := by
  have h : ∀ a, win1_4.index t1_0 a = 0 := by decide +kernel
  unfold Pipeline.Dat.before; rw [if_pos (fetch1_4 _)]
  show ((cfg1.win 4).blk t1_0).view.read (Elt F) (arrE e c 4) = _
  funext j; blk_simp; exact congrArg (e c).b (by blk_ext [h])

theorem owns_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

theorem body_obligation (c : Dev nD) : Pipeline.BodyObligation (dat1 e c) (defs₀ (F := F)) 𝒱₀ none Set.univ := fun t => by
  obtain rfl := fin_N1 t
  rw [bigSep_W1, bigSep_W1]
  simp only [owns_eq]
  rw [show (dat1 e c).Φ t1_0.castSucc = iprop(emp) from rfl, show (dat1 e c).Φ t1_0.succ = iprop(emp) from rfl,
    show (dat1 e c).owesAt none t1_0.succ = (dat1 e c).owesAt none t1_0.castSucc from rfl]
  iintro ⟨-, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0; rw [before_1] at hf1; rw [before_2] at hf2; rw [before_3] at hf3; rw [before_4] at hf4
  subst hf0 hf1 hf2 hf3 hf4
  iapply (combine_run c (e c).M (e c).A (e c).C (e c).g (e c).b f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitr; · iempintro
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## The region -/

theorem arrays_six (c : Dev nD) (Fa) : ((pdats e 0 c).arrays Fa : sProp 𝕄)
    = iprop(tp c main_v1_0 (Fa 0) ∗ tp c main_v1_1 (Fa 1) ∗ tp c main_v1_2 (Fa 2) ∗ tp c main_v2 (Fa 3) ∗ tp c main_v3 (Fa 4) ∗ tp c main_v4 (Fa 5)) := by
  rw [Pipeline.arrays_eq (Pipeline.pin (pcfgs (F := F)) adm) (pdats e) 0 c launch1.arr_whole ((pdats e 0 c).share_full fun _ => rfl) Fa, bigSep_W1]

theorem out_eq (c : Dev nD) : (dat1 e c).arrAt 5 cfg1.N = comb (e c) := by
  have h : ∀ a, win1_5.index t1_0 a = 0 := by decide +kernel
  refine (dat1 e c).arrAt_eq_of_after_last 5 t1_0 (by decide +kernel) _ fun j => ?_
  blk_simp
  rfl

/-- The six arrays after the region: the inputs as they were, the output combined. -/
theorem arrays_after (c : Dev nD) : ((pdats e 0 c).arrays ((pdats e 0 c).arrAt · (Pipeline.pin (pcfgs (F := F)) adm 0).N) : sProp 𝕄)
    = iprop(tp c main_v1_0 (e c).M ∗ tp c main_v1_1 (e c).A ∗ tp c main_v1_2 (e c).C ∗ tp c main_v2 (e c).g ∗ tp c main_v3 (e c).b ∗ tp c main_v4 (comb (e c))) := by
  rw [arrays_six]
  show iprop(tp c main_v1_0 ((dat1 e c).arrAt 0 cfg1.N) ∗ tp c main_v1_1 ((dat1 e c).arrAt 1 cfg1.N) ∗ tp c main_v1_2 ((dat1 e c).arrAt 2 cfg1.N) ∗ tp c main_v2 ((dat1 e c).arrAt 3 cfg1.N)
    ∗ tp c main_v3 ((dat1 e c).arrAt 4 cfg1.N) ∗ tp c main_v4 ((dat1 e c).arrAt 5 cfg1.N)) = _
  rw [(dat1 e c).arrAt_in 0 rfl _, (dat1 e c).arrAt_in 1 rfl _, (dat1 e c).arrAt_in 2 rfl _, (dat1 e c).arrAt_in 3 rfl _, (dat1 e c).arrAt_in 4 rfl _, out_eq]
  rfl

theorem cut : Pipeline.LevelCut (nD := nD) (pcfgs (F := F)) adm none (K (F := F)).L (K (F := F)).lev 0 (fun _ => 0) (fun _ => 0) where
  hι := fun c w s => by simp
  hιb := fun c w s => le_of_eq (SparseCore.Cfg.lev_none ..)
  hD := fun c g i h => absurd h (lt_irrefl _)

def reg (R : Dev nD → sProp 𝕄) : Pipeline.RegionSeg (pcfgs (F := F)) adm (pdats e) none (defs₀ (F := F)) 𝒱₀ (K (F := F)).L (K (F := F)).lev 0 :=
  Pipeline.RegionSeg.ofArrays (pcfgs (F := F)) adm (pdats e) none defs₀ 𝒱₀ (K (F := F)).L (K (F := F)).lev 0 (fun _ => 0) (fun _ => iprop(emp)) (fun _ => iprop(emp))
    launch1.toP.to₀ rfl (fun c => (body_obligation e c).loose) (fun _ _ => rfl) (fun _ => rfl)
    (fun c => by iintro -; iempintro) (fun c => by
      show _ ⊢ iprop(Pipeline.scopedRest spec1 c ∗ emp)
      rw [scopedRest1_eq]; iintro -; isplitr <;> iempintro)
    (fun _ => 0) cut R

end Cert.Proof.KernelIdeal

end
-- ==== Proof.Ideal.Main.lean ====
/-
  @main on the TensorCore: the padding of the ids, the segment kernel's call, the two reshapes, the combine's region; and the
  whole program's run, with what the result array ends at.
-/
module

public import proofs.«01_k».proof.Proof.Ideal.Launch
public import proofs.«01_k».proof.Proof.Ideal.Region

@[expose] public section

noncomputable section

namespace Cert.Proof.KernelIdeal

open Cert.KernelIdeal Cert.KernelIdeal.Gen
open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MM F

variable (m : (ℓ : Loc nD τ sig) → Buf (Elt F) ℓ) (ρ : Dev nD → PrngReg)

/-! ## The host operations -/

/-- The ids' padding. -/
abbrev opsPad : List (HloOp τ sig (Elt F)) :=
  [StableHlo.nullary main_c (constantI S_ 32 0#32),
   StableHlo.TRef.unary (.of main_c : StableHlo.TRef sig ⟨S_, .i32⟩) main_call0.v0 id,
   StableHlo.TRef.binary (.of main_arg1 : StableHlo.TRef sig ⟨S50000, .i32⟩) main_call0.v0 main_call0.v1 (fun x v => pad S50016 ![0] ![16] ![0] x v pads_S50000_S50016_0160 h_S_)]
/-- The two reshapes. -/
abbrev opsRow : List (HloOp τ sig (Elt F)) :=
  [StableHlo.reshape main_arg2 main_v2 (rfl : (.f32 : EltTy) = .f32) shapeCasts_S512_S1x512,
   StableHlo.reshape main_arg3 main_v3 (rfl : (.f32 : EltTy) = .f32) shapeCasts_S512_S1x512]

theorem main_eq (d : Dev nD) : main (F := F) d
    = (StableHlo.seq opsPad >>= fun _ => ((K (F := F)).run d 0 >>= fun _ => (StableHlo.seq opsRow >>= fun _ =>
        (SparseCore.liftProg (.op (.customCall (Pipeline.entry 0) ()) .ret) >>= fun _ => pure ⟨⟩)))) := rfl

/-! ## What the buffers hold along @main -/

/-- At launch. -/
abbrev V₀ (d : Dev nD) : Valuation τ sig (Elt F) := fun b => m (d, b)
/-- After the padding. -/
def V₁ (d : Dev nD) : Valuation τ sig (Elt F) := after opsPad (V₀ m d)

/-- The rows and the padded ids the segment kernel is called on. -/
def Nd (d : Dev nD) : S50000x256.Idx → Elt F .f32 := m (nLoc d)
def sd (d : Dev nD) : S50016.Idx → BitVec 32 := V₁ m d (Proc.devRef .tc main_v0)

/-- After the segment kernel. -/
def V₂ (d : Dev nD) : Valuation τ sig (Elt F) :=
  Function.update (Function.update (Function.update (V₁ m d) (Proc.devRef .tc main_v1_0) (partM (Nd m d) (sd m d)))
    (Proc.devRef .tc main_v1_1) (partA (Nd m d) (sd m d))) (Proc.devRef .tc main_v1_2) (partC (Nd m d) (sd m d))
/-- After the reshapes. -/
def V₃ (d : Dev nD) : Valuation τ sig (Elt F) := after opsRow (V₂ m d)

/-- What the combine is entered with. -/
def ent (d : Dev nD) : Ent F where
  M := partM (Nd m d) (sd m d)
  A := partA (Nd m d) (sd m d)
  C := partC (Nd m d) (sd m d)
  g := V₃ m d (Proc.devRef .tc main_v2)
  b := V₃ m d (Proc.devRef .tc main_v3)
  o := m ((SparseCore.T d).loc main_v4)

/-- @main's buffers. -/
def refs : Finset (Ref sig .tc) := {main_arg0, main_arg1, main_arg2, main_arg3, main_c, main_call0_v0, main_v0, main_v1_0, main_v1_1, main_v1_2, main_v2, main_v3, main_v4}
def bufs : Finset (DevRef τ sig) := refs.map ⟨Proc.devRef .tc, Proc.devRef_injective .tc⟩

theorem held_eq (d : Dev nD) (W : Valuation τ sig (Elt F)) : (held (SparseCore.T d) bufs W : sProp 𝕄)
    = iprop(tp d main_arg0 (W (Proc.devRef .tc main_arg0)) ∗ tp d main_arg1 (W (Proc.devRef .tc main_arg1)) ∗ tp d main_arg2 (W (Proc.devRef .tc main_arg2))
      ∗ tp d main_arg3 (W (Proc.devRef .tc main_arg3)) ∗ tp d main_c (W (Proc.devRef .tc main_c)) ∗ tp d main_call0_v0 (W (Proc.devRef .tc main_call0_v0))
      ∗ tp d main_v0 (W (Proc.devRef .tc main_v0)) ∗ tp d main_v1_0 (W (Proc.devRef .tc main_v1_0)) ∗ tp d main_v1_1 (W (Proc.devRef .tc main_v1_1))
      ∗ tp d main_v1_2 (W (Proc.devRef .tc main_v1_2)) ∗ tp d main_v2 (W (Proc.devRef .tc main_v2)) ∗ tp d main_v3 (W (Proc.devRef .tc main_v3))
      ∗ tp d main_v4 (W (Proc.devRef .tc main_v4))) := by
  unfold held bufs
  rw [bigSep_map]
  unfold refs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

theorem unscoped_held (d : Dev nD) : (unscopedBufs d (fun b => m ((SparseCore.T d).loc b)) : sProp 𝕄) = held (SparseCore.T d) bufs (V₀ m d) := by
  unfold unscopedBufs held bufs
  rw [bigSep_map, show (Finset.univ.filter fun b : Ref sig .tc => ¬ b.isScoped) = refs by decide]
  rfl

theorem padSub : ∀ op ∈ opsPad (F := F), op.bufs ⊆ bufs := by
  intro op h
  simp only [List.mem_cons, List.not_mem_nil, or_false] at h
  rcases h with rfl | rfl | rfl
  · show ({Proc.devRef .tc main_c} : Finset (DevRef τ sig)) ⊆ bufs
    decide
  · show ({Proc.devRef .tc main_c, Proc.devRef .tc main_call0_v0} : Finset (DevRef τ sig)) ⊆ bufs
    decide
  · show ({Proc.devRef .tc main_arg1, Proc.devRef .tc main_call0_v0, Proc.devRef .tc main_v0} : Finset (DevRef τ sig)) ⊆ bufs
    decide

theorem rowSub : ∀ op ∈ opsRow (F := F), op.bufs ⊆ bufs := by
  intro op h
  simp only [List.mem_cons, List.not_mem_nil, or_false] at h
  rcases h with rfl | rfl
  · show ({Proc.devRef .tc main_arg2, Proc.devRef .tc main_v2} : Finset (DevRef τ sig)) ⊆ bufs
    decide
  · show ({Proc.devRef .tc main_arg3, Proc.devRef .tc main_v3} : Finset (DevRef τ sig)) ⊆ bufs
    decide

/-- The padding writes its own three buffers only. -/
theorem V₁_keep (d : Dev nD) (r : Ref sig .tc) (h : r ∉ ([main_c, main_call0_v0, main_v0] : List (Ref sig .tc))) :
    V₁ m d (Proc.devRef .tc r) = m ((SparseCore.T d).loc r) := by
  unfold V₁
  refine StableHlo.after_of_writes_sub (W := [main_c, main_call0_v0, main_v0]) opsPad (V₀ m d) ?_ h
  refine ⟨?_, ?_, ?_⟩
  · show ({Proc.devRef .tc main_c} : Finset (DevRef τ sig)) ⊆ _
    decide
  · show ({Proc.devRef .tc main_call0_v0} : Finset (DevRef τ sig)) ⊆ _
    decide
  · show ({Proc.devRef .tc main_v0} : Finset (DevRef τ sig)) ⊆ _
    decide

theorem V₃_keep (d : Dev nD) (r : Ref sig .tc) (h : r ∉ ([main_v2, main_v3] : List (Ref sig .tc))) :
    V₃ m d (Proc.devRef .tc r) = V₂ m d (Proc.devRef .tc r) := by
  unfold V₃
  refine StableHlo.after_of_writes_sub (W := [main_v2, main_v3]) opsRow (V₂ m d) ?_ h
  refine ⟨?_, ?_⟩
  · show ({Proc.devRef .tc main_v2} : Finset (DevRef τ sig)) ⊆ _
    decide
  · show ({Proc.devRef .tc main_v3} : Finset (DevRef τ sig)) ⊆ _
    decide

theorem V₂_keep (d : Dev nD) (r : Ref sig .tc) (h : r ∉ ([main_v1_0, main_v1_1, main_v1_2] : List (Ref sig .tc))) :
    V₂ m d (Proc.devRef .tc r) = V₁ m d (Proc.devRef .tc r) := by
  simp only [List.mem_cons, List.not_mem_nil, or_false, not_or] at h
  unfold V₂
  rw [Function.update_of_ne fun e => h.2.2 (Proc.devRef_injective .tc e), Function.update_of_ne fun e => h.2.1 (Proc.devRef_injective .tc e),
    Function.update_of_ne fun e => h.1 (Proc.devRef_injective .tc e)]
theorem V₂_M (d : Dev nD) : V₂ m d (Proc.devRef .tc main_v1_0) = partM (Nd m d) (sd m d) := by
  unfold V₂
  rw [Function.update_of_ne (by decide), Function.update_of_ne (by decide), Function.update_self]
theorem V₂_A (d : Dev nD) : V₂ m d (Proc.devRef .tc main_v1_1) = partA (Nd m d) (sd m d) := by
  unfold V₂
  rw [Function.update_of_ne (by decide), Function.update_self]
theorem V₂_C (d : Dev nD) : V₂ m d (Proc.devRef .tc main_v1_2) = partC (Nd m d) (sd m d) := by
  unfold V₂
  rw [Function.update_self]

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch gives @main for its region. -/
def regG (d : Dev nD) : sProp 𝕄 :=
  iprop(Pipeline.cellsGhost (Pipeline.pin (pcfgs (F := F)) adm) EB 0 d ∗ Pipeline.toksInit (Pipeline.pin (pcfgs (F := F)) adm) EB 0 d)

theorem bigSep_nil {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => regG (F := F) d)
        ∗ bigSep Finset.univ fun thr : Thread nD τ => bigSep Finset.univ fun q : Fin 1 => (P m (Nd m) (sd m)).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UB × Counters)) $$ Hu
  icases H with ⟨HH, HR⟩
  ihave HR' := (show (BI.own (embR ((initOf (Pipeline.cells (Pipeline.pin (pcfgs (F := F)) adm) cellOf_inj) (Pipeline.launchToks (Pipeline.pin (pcfgs (F := F)) adm) cellOf_inj), 1) : UB × Counters)) : sProp 𝕄)
      ⊢ BI.own (EB (initOf (Pipeline.cells (Pipeline.pin (pcfgs (F := F)) adm) cellOf_inj) (Pipeline.launchToks (Pipeline.pin (pcfgs (F := F)) adm) cellOf_inj))) from Entails.of_eq rfl) $$ HR
  imod (Pipeline.fund_ghost (Pipeline.pin (pcfgs (F := F)) adm) EB cellOf_inj) $$ HR' with ⟨Hg, Ht⟩
  imodintro
  isplitl [HH]; · iexact HH
  isplitl [Hg Ht]
  · unfold regG
    rw [bigSep_sep']
    isplitl [Hg]
    · iapply (show (bigSep Finset.univ fun c : Dev nD => bigSep Finset.univ fun p : Fin 1 => (Pipeline.cellsGhost (Pipeline.pin (pcfgs (F := F)) adm) EB p c : sProp 𝕄))
          ⊢ bigSep Finset.univ fun c : Dev nD => Pipeline.cellsGhost (Pipeline.pin (pcfgs (F := F)) adm) EB 0 c from
        Entails.of_eq (bigSep_congr fun c _ => bigSep_univ_of_subsingleton (0 : Fin 1)))
      iexact Hg
    iapply (show (bigSep Finset.univ fun c : Dev nD => bigSep Finset.univ fun p : Fin 1 => (Pipeline.toksInit (Pipeline.pin (pcfgs (F := F)) adm) EB p c : sProp 𝕄))
        ⊢ bigSep Finset.univ fun c : Dev nD => Pipeline.toksInit (Pipeline.pin (pcfgs (F := F)) adm) EB 0 c from
      Entails.of_eq (bigSep_congr fun c _ => bigSep_univ_of_subsingleton (0 : Fin 1)))
    iexact Ht
  rw [show (bigSep Finset.univ fun thr : Thread nD τ => bigSep Finset.univ fun q : Fin 1 => (P (F := F) m (Nd m) (sd m)).x q thr) = bigSep Finset.univ fun _ => iprop(emp) from
    bigSep_congr fun _ _ => bigSep_univ_of_subsingleton (0 : Fin 1), bigSep_nil]
  iempintro

/-! ## @main -/

/-- What @main leaves: the four arguments as launched and the combined result. -/
abbrev FIN (d : Dev nD) : sProp 𝕄 :=
  iprop(tp d main_arg0 (m ((SparseCore.T d).loc main_arg0)) ∗ tp d main_arg1 (m ((SparseCore.T d).loc main_arg1)) ∗ tp d main_arg2 (m ((SparseCore.T d).loc main_arg2))
    ∗ tp d main_arg3 (m ((SparseCore.T d).loc main_arg3)) ∗ tp d main_v4 (comb (ent m d)))

/-- The rest of what the TensorCore holds while its calls run. -/
theorem tcSt_open (d : Dev nD) : ∃ R : sProp 𝕄, ((K (F := F)).tcSt EH d 1 : sProp 𝕄)
    = iprop((∃ W, ⌜(K (F := F)).WBelow (SparseCore.T d) W 8⌝ ∗ owes (SparseCore.T d) 0 W) ∗ R) := by
  unfold SparseCore.Cfg.tcSt
  rw [(K (F := F)).Otc_end d (le_refl 1)]
  exact ⟨_, rfl⟩

theorem below (d : Dev nD) (W : Waits sig (HIx 1)) : (K (F := F)).WBelow (SparseCore.T d) W 8 := by
  intro p _
  rcases hq : p.2 with _ | q
  · rw [SparseCore.Cfg.lev_none]; exact Nat.zero_le _
  · exact ((K (F := F)).lev_some_le _ q).trans (by have := q.isLt; omega)

theorem hmain (κ : GSem nD τ sig → ℕ) (d : Dev nD) :
    iprop((K (F := F)).ctx EH (P m (Nd m) (sd m)) κ ∗ (K (F := F)).tcSt EH d 0 ∗ (K (F := F)).tcRes m ρ d ∗ regG d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  have hctx : (K (F := F)).ctx EH (P m (Nd m) (sd m)) κ ⊢ levAts (K (F := F)).L (K (F := F)).lev := by
    unfold SparseCore.Cfg.ctx; iintro ⟨H, -⟩; iexact H
  unfold SparseCore.Cfg.tcRes SparseCore.Cfg.tcEnd regG
  rw [unscoped_held, main_eq]
  iintro ⟨#Hctx, Hst, ⟨Hb, Hu, Hts, -⟩, ⟨Hg, Ht⟩⟩
  ihave #Hlv := hctx $$ Hctx
  -- the ids padded
  iapply (StableHlo.wp_seq 𝒱 none Set.univ d bufs _ opsPad padSub (by intro op h; simp only [List.mem_cons, List.not_mem_nil, or_false] at h; rcases h with rfl | rfl | rfl <;> rfl) (V₀ m d)) $$ [Hb Hu]
  · isplitl [Hb] <;> iassumption
  iintro ⟨Hb, Hu⟩
  ihave Hu' := (Entails.of_eq (show (held (SparseCore.T d) bufs (after opsPad (V₀ m d)) : sProp 𝕄) = _ from held_eq d (V₁ m d))) $$ Hu
  icases Hu' with ⟨H0, H1, H2, H3, Hc, Hc0, Hv0, HM, HA, HC, Hv2, Hv3, Hv4⟩
  -- the segment kernel
  rw [wp_bind]
  iapply ((K (F := F)).wp_run (D (F := F)) 𝒱 (EH := EH) (P := P m (Nd m) (sd m)) κ d 0)
  isplitr; · iexact Hctx
  isplitl [Hst]; · iexact Hst
  isplitl [H0 Hv0 HM HA HC]
  · rw [st_all]
    isplitl [H0]; · iapply (Entails.of_eq (congrArg (fun x => (tp d main_arg0 x : sProp 𝕄)) (V₁_keep m d main_arg0 (by decide)))); iexact H0
    isplitl [Hv0]; · iexact Hv0
    isplitl [HM]; · iapply (Entails.of_eq (congrArg (fun x => (tp d main_v1_0 x : sProp 𝕄)) (V₁_keep m d main_v1_0 (by decide)))); iexact HM
    isplitl [HA]; · iapply (Entails.of_eq (congrArg (fun x => (tp d main_v1_1 x : sProp 𝕄)) (V₁_keep m d main_v1_1 (by decide)))); iexact HA
    iapply (Entails.of_eq (congrArg (fun x => (tp d main_v1_2 x : sProp 𝕄)) (V₁_keep m d main_v1_2 (by decide)))); iexact HC
  iintro ⟨Hst, Hdn⟩
  ihave Hdn' := (Entails.of_eq (dn_all m (Nd m) (sd m) d)) $$ Hdn
  icases Hdn' with ⟨H0, Hv0, HM, HA, HC⟩
  -- the reshapes
  iapply (StableHlo.wp_seq 𝒱 none Set.univ d bufs _ opsRow rowSub (by intro op h; simp only [List.mem_cons, List.not_mem_nil, or_false] at h; rcases h with rfl | rfl <;> rfl) (V₂ m d)) $$ [Hb H0 H1 H2 H3 Hc Hc0 Hv0 HM HA HC Hv2 Hv3 Hv4]
  · isplitl [Hb]; · iexact Hb
    iapply (Entails.of_eq (held_eq d (V₂ m d)).symm)
    rw [V₂_M, V₂_A, V₂_C, V₂_keep m d main_arg0 (by decide), V₂_keep m d main_arg1 (by decide), V₂_keep m d main_arg2 (by decide), V₂_keep m d main_arg3 (by decide),
      V₂_keep m d main_c (by decide), V₂_keep m d main_call0_v0 (by decide), V₂_keep m d main_v0 (by decide), V₂_keep m d main_v2 (by decide),
      V₂_keep m d main_v3 (by decide), V₂_keep m d main_v4 (by decide), V₁_keep m d main_arg0 (by decide)]
    isplitl [H0]; · iexact H0
    isplitl [H1]; · iexact H1
    isplitl [H2]; · iexact H2
    isplitl [H3]; · iexact H3
    isplitl [Hc]; · iexact Hc
    isplitl [Hc0]; · iexact Hc0
    isplitl [Hv0]; · iexact Hv0
    isplitl [HM]; · iexact HM
    isplitl [HA]; · iexact HA
    isplitl [HC]; · iexact HC
    isplitl [Hv2]; · iexact Hv2
    isplitl [Hv3]; · iexact Hv3
    iexact Hv4
  iintro ⟨Hb, Hu⟩
  ihave Hu' := (Entails.of_eq (show (held (SparseCore.T d) bufs (after opsRow (V₂ m d)) : sProp 𝕄) = _ from held_eq d (V₃ m d))) $$ Hu
  rw [V₃_keep m d main_arg0 (by decide), V₃_keep m d main_arg1 (by decide), V₃_keep m d main_arg2 (by decide), V₃_keep m d main_arg3 (by decide),
    V₃_keep m d main_v1_0 (by decide), V₃_keep m d main_v1_1 (by decide), V₃_keep m d main_v1_2 (by decide), V₃_keep m d main_v4 (by decide),
    V₂_M, V₂_A, V₂_C, V₂_keep m d main_arg0 (by decide), V₂_keep m d main_arg1 (by decide), V₂_keep m d main_arg2 (by decide), V₂_keep m d main_arg3 (by decide), V₂_keep m d main_v4 (by decide),
    V₁_keep m d main_arg0 (by decide), V₁_keep m d main_arg1 (by decide), V₁_keep m d main_arg2 (by decide), V₁_keep m d main_arg3 (by decide), V₁_keep m d main_v4 (by decide)]
  icases Hu' with ⟨H0, H1, H2, H3, -, -, -, HM, HA, HC, Hv2, Hv3, Hv4⟩
  -- the combine's region
  ihave Hst' := (show ((K (F := F)).tcSt EH d ((0 : Fin 1).val + 1) : sProp 𝕄) ⊢ _ from Entails.of_eq hR) $$ Hst
  icases Hst' with ⟨⟨%W, -, HO⟩, HR⟩
  rw [wp_bind]
  iapply ((K (F := F)).wp_liftProg (D (F := F)) 𝒱 (SparseCore.T d) Set.univ none)
  iapply (Pipeline.RegionSeg.wp (pcfgs (F := F)) adm (pdats (ent m)) none cellOf_inj EB defs₀ 𝒱₀ (K (F := F)).L (K (F := F)).lev (reg (ent m) fun _ => iprop(emp)) d none (by simp) .ret)
  isplitr [Hb HO HM HA HC Hv2 Hv3 Hv4 Hg Ht]
  · iintro ⟨Hb, Hpost⟩
    ihave Hpost' := (show (reg (ent m) fun _ => iprop(emp)).post d ⊢ iprop((pdats (ent m) 0 d).arrays ((pdats (ent m) 0 d).arrAt · (Pipeline.pin (pcfgs (F := F)) adm 0).N) ∗ emp ∗ emp ∗ ∃ W, owes (d : Thread nD τ) 0 W)
      from Entails.refl _) $$ Hpost
    icases Hpost' with ⟨Ha, -, -, ⟨%W', HO⟩⟩
    ihave Ha' := (Entails.of_eq (arrays_after (ent m) d)) $$ Ha
    icases Ha' with ⟨-, -, -, -, -, Hv4⟩
    iapply (wp_ret ⟨⟩ _)
    iapply (wp_ret ⟨⟩ _)
    isplitl [HO HR]
    · iapply (Entails.of_eq hR.symm)
      isplitl [HO]
      · iexists W'; isplitr; · ipureintro; exact below d W'
        iexact HO
      iexact HR
    isplitr [Hb Hts]
    · isplitl [H0]; · iexact H0
      isplitl [H1]; · iexact H1
      isplitl [H2]; · iexact H2
      isplitl [H3]; · iexact H3
      iexact Hv4
    isplitl [Hb] <;> iassumption
  isplitl [Hb]; · iexact Hb
  isplitl [HO HM HA HC Hv2 Hv3 Hv4]
  · iapply (show iprop((pdats (ent m) 0 d).arrays ((pdats (ent m) 0 d).arrAt · 0) ∗ emp ∗ emp ∗ ∃ W, owes (d : Thread nD τ) 0 W) ⊢ (reg (ent m) fun _ => iprop(emp)).pre d from Entails.refl _)
    isplitl [HM HA HC Hv2 Hv3 Hv4]
    · rw [arrays_six]
      isplitl [HM]; · iexact HM
      isplitl [HA]; · iexact HA
      isplitl [HC]; · iexact HC
      isplitl [Hv2]; · iexact Hv2
      isplitl [Hv3]; · iexact Hv3
      iexact Hv4
    isplitr; · iempintro
    isplitr; · iempintro
    iexists W; iexact HO
  isplitr; · iexact Hlv
  isplitl [Hg] <;> iassumption

/-! ## The final state -/

/-- What the final state says on one device. -/
def fq (d : Dev nD) (s' : Phys nD τ sig (Elt F)) : Prop :=
  s'.mem.mem ((SparseCore.T d).loc main_v4) = comb (ent m d)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

/-- A buffer held whole is what the memory holds. -/
theorem tp_agree (d : Dev nD) (s' : Phys nD τ sig (Elt F)) (b : Ref sig .tc) (f : Buf (Elt F) ((SparseCore.T d).loc b)) :
    iprop(SI s' ∗ tp d b f) ⊢ (iprop(⌜s'.mem.mem ((SparseCore.T d).loc b) = f⌝ ∗ SI s') : sProp 𝕄) := by
  iintro ⟨HSI, Hx⟩
  ihave H := (persistent_entails_right (SI_pointsTo_agree (st := s') (ℓ := (SparseCore.T d).loc b) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (tp_agree d s' main_arg0 _) $$ [HSI H0]
  · isplitl [HSI] <;> iassumption
  icases H with ⟨%h0, HSI⟩
  ihave H := (tp_agree d s' main_arg1 _) $$ [HSI H1]
  · isplitl [HSI] <;> iassumption
  icases H with ⟨%h1, HSI⟩
  ihave H := (tp_agree d s' main_arg2 _) $$ [HSI H2]
  · isplitl [HSI] <;> iassumption
  icases H with ⟨%h2, HSI⟩
  ihave H := (tp_agree d s' main_arg3 _) $$ [HSI H3]
  · isplitl [HSI] <;> iassumption
  icases H with ⟨%h3, HSI⟩
  ihave H := (tp_agree d s' main_v4 _) $$ [HSI H4]
  · isplitl [HSI] <;> iassumption
  icases H with ⟨%h4, -⟩
  ipureintro; exact ⟨h4, h0, h1, h2, h3⟩

/-- The program's post: on every device the combined result and the arguments as launched, and every counter at zero. -/
def QC : PUnit × MemSt nD τ sig (Elt F) → Prop := fun r => (∀ c : Dev nD,
    r.2.mem ((SparseCore.T c).loc main_v4) = comb (ent m c)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)) ∧ r.2.sem = fun _ => 0

/-- The whole program's run, of ids that name segments. -/
theorem run_main [∀ e, Nonempty (Elt F e)] (hs : ∀ d, OkIds (sd m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P m (Nd m) (sd m)) (A := ∅) facts v₀
    (fun q hq => match q with | 0 => nomatch hq)
    (fun q _ => match q with | 0 => tileObl m (Nd m) (sd m) hs facts)
    (fun q _ => match q with | 0 => SparseCore.Cfg.VecSplit.of_plain (vecSplit m (Nd m) (sd m)))
    m ρ main (fun d => regG d) (FIN m) (u₀ (F := F)) (sep_elim_left.trans (hu₀ m)) (hmain m ρ) (fq m) (hfin m) (QC m) (fun _ h hz => ⟨h, hz⟩)

/-! ## The padded ids -/

/-- An id below the padding is the argument's. -/
theorem sd_low (d : Dev nD) (j : S50016.Idx) (h : (j 0).val < 50000) :
    sd m d j = m ((SparseCore.T d).loc main_arg1) (fun a => ⟨(j 0).val, by match a with | 0 => exact h⟩) := by
  have e : sd m d = pad S50016 ![0] ![16] ![0] (m ((SparseCore.T d).loc main_arg1)) (constantI S_ 32 0#32) pads_S50000_S50016_0160 h_S_ := by
    unfold sd V₁
    simp only [opsPad, StableHlo.TRef.binary, StableHlo.TRef.unary, StableHlo.TRef.toBuf, StableHlo.TRef.ofBuf, cast_eq]
    after_results_simp <;> rfl
  rw [e]
  unfold pad
  rw [dif_pos (by intro a; match a with | 0 => exact ⟨Nat.zero_le _, Nat.mod_one _, (show ((j 0).val - 0) / 1 < 50000 by omega)⟩)]
  congr 1
  funext a; match a with | 0 => apply Fin.ext; simp

/-- The gain and the bias the combine reads are the arguments', one row. -/
theorem ent_g (d : Dev nD) : (ent m d).g = shapeCast S1x512 (m ((SparseCore.T d).loc main_arg2)) shapeCasts_S512_S1x512 := by
  have e : V₃ m d (Proc.devRef .tc main_v2) = shapeCast S1x512 (V₂ m d (Proc.devRef .tc main_arg2)) shapeCasts_S512_S1x512 := by
    unfold V₃
    simp only [opsRow]
    after_results_simp <;> rfl
  exact e.trans (by rw [V₂_keep m d main_arg2 (by decide), V₁_keep m d main_arg2 (by decide)])
theorem ent_b (d : Dev nD) : (ent m d).b = shapeCast S1x512 (m ((SparseCore.T d).loc main_arg3)) shapeCasts_S512_S1x512 := by
  have e : V₃ m d (Proc.devRef .tc main_v3) = shapeCast S1x512 (V₂ m d (Proc.devRef .tc main_arg3)) shapeCasts_S512_S1x512 := by
    unfold V₃
    simp only [opsRow]
    after_results_simp <;> rfl
  exact e.trans (by rw [V₂_keep m d main_arg3 (by decide), V₁_keep m d main_arg3 (by decide)])

end Cert.Proof.KernelIdeal

end
-- ==== Proof.Ideal.Ids.lean ====
/-
  The ids as the precondition has them: each names a segment, and they ascend.
-/
module

public import proofs.«01_k».proof.Proof.Ideal.Tile
public import proofs.«01_k».proof.Pre_sorted_graphs

@[expose] public section

noncomputable section

namespace Cert.Proof.KernelIdeal

open Cert.KernelIdeal Cert.KernelIdeal.Gen
open Idealize.ShloMosaic
open Idealize.SL.Sem
open Idealize.ShloMosaic.ValueIdx (ix1 ix2)

variable {F : FTy → Type} [FloatOps F] [hp : Cert.Pre_sorted_graphs.Facts]
variable (n : FVec F S50000x256 .f32) (s : IVec S50000 32) (a b : FVec F S512 .f32)

theorem ofBool_one {c : Bool} (h : BitVec.ofBool c = 1#1) : c = true := by
  cases c with
  | true => rfl
  | false => exact absurd h (by decide)

theorem word_range (x : BitVec 32) (h : IntOp.andi (IntOp.cmpi .sge x 0#32) (IntOp.cmpi .slt x 128#32) = 1#1) : x.toNat < 128 := by
  have hx := x.isLt
  have h0 : (0#32).sle x = true ∧ x.slt 128#32 = true := by
    change BitVec.ofBool ((0#32).sle x) &&& BitVec.ofBool (x.slt 128#32) = 1#1 at h
    generalize (0#32).sle x = p at h ⊢
    generalize x.slt 128#32 = q at h ⊢
    revert h
    cases p <;> cases q <;> decide
  have h1 := of_decide_eq_true ((BitVec.sle_eq_decide).symm.trans h0.1)
  have h2 := of_decide_eq_true ((BitVec.slt_eq_decide).symm.trans h0.2)
  rw [BitVec.toInt_eq_toNat_cond x] at h1 h2
  have e0 : (0#32).toInt = 0 := by decide
  have e1 : (128#32).toInt = 128 := by decide
  rw [e0] at h1
  rw [e1] at h2
  split at h1 <;> omega

theorem word_le (x y : BitVec 32) (hx : x.toNat < 128) (hy : y.toNat < 128) (h : IntOp.cmpi .sle x y = 1#1) : x.toNat ≤ y.toNat := by
  have h1 := of_decide_eq_true ((BitVec.sle_eq_decide).symm.trans (ofBool_one h))
  rw [BitVec.toInt_eq_toNat_cond, BitVec.toInt_eq_toNat_cond] at h1
  split at h1 <;> split at h1 <;> omega

theorem ids_lt (h : (Cert.Pre_sorted_graphs.fn n s a b).1 = fun _ => 1#1) (R : Fin 50000) : (s (ix1 R)).toNat < 128 :=
  word_range _ (congrFun h (ix1 R))

theorem ids_next (h : (Cert.Pre_sorted_graphs.fn n s a b).1 = fun _ => 1#1) (h' : (Cert.Pre_sorted_graphs.fn n s a b).2 = fun _ => 1#1)
    (R : ℕ) (hR : R + 1 < 50000) : (s (ix1 ⟨R, by omega⟩)).toNat ≤ (s (ix1 ⟨R + 1, hR⟩)).toNat := by
  refine word_le _ _ (ids_lt n s a b h _) (ids_lt n s a b h _) ?_
  refine Eq.trans ?_ (congrFun h' (ix1 ⟨R, by omega⟩))
  refine congrArg₂ (IntOp.cmpi .sle) ?_ ?_
  · exact congrArg s (funext fun z => Fin.ext (by match z with | 0 => exact (Nat.zero_add _).symm))
  · exact congrArg s (funext fun z => Fin.ext (by match z with | 0 => exact Nat.add_comm _ _))

variable (t : S50016.Idx → BitVec 32) (ht : ∀ R (hR : R < 50000), idOf t R = s (ix1 ⟨R, hR⟩))
include ht

theorem okIds_of (h : (Cert.Pre_sorted_graphs.fn n s a b).1 = fun _ => 1#1) : OkIds t := fun R hR => by
  rw [ht R hR]; exact ids_lt n s a b h _

theorem up_of (h : (Cert.Pre_sorted_graphs.fn n s a b).1 = fun _ => 1#1) (h' : (Cert.Pre_sorted_graphs.fn n s a b).2 = fun _ => 1#1)
    (R : ℕ) : ∀ k, R + k < 50000 → (idOf t R).toNat ≤ (idOf t (R + k)).toNat
  | 0, _ => Nat.le_refl _
  | k + 1, hk => (up_of h h' R k (by omega)).trans (by
      rw [ht _ (by omega), ht _ hk]
      exact ids_next n s a b h h' (R + k) hk)

end Cert.Proof.KernelIdeal

end
-- ==== Proof.Ideal.Frames.lean ====
/-
  The frame: of ids as the precondition has them the program runs, leaves its arguments, and leaves every counter at zero.
-/
module

public import proofs.«01_k».proof.Proof.Ideal.Main
public import proofs.«01_k».proof.Proof.Ideal.Ids
public import proofs.«01_k».proof.Proof.Gen.Pre_sorted_graphs
public import proofs.«01_k».proof.Defs

@[expose] public section

noncomputable section

namespace Cert.Proof.KernelIdeal

open Cert.KernelIdeal Cert.KernelIdeal.Gen
open Idealize.ShloMosaic Idealize.SL.Sem

section Any
variable {F : FTy → Type} [FloatOps F] (m : (ℓ : Loc nD τ sig) → Buf (Elt F) ℓ)

theorem sd_id (d : Dev nD) (R : ℕ) (hR : R < 50000) : idOf (sd m d) R = m ((SparseCore.T d).loc main_arg1) (ValueIdx.ix1 ⟨R, hR⟩) := by
  have e : R % 50016 = R := Nat.mod_eq_of_lt (by omega)
  unfold idOf
  refine (sd_low m d _ (by show R % 50016 < 50000; omega)).trans ?_
  exact congrArg (m ((SparseCore.T d).loc main_arg1)) (funext fun a => by match a with | 0 => exact Fin.ext e)
end Any

theorem pre_ok (m : (ℓ : Loc nD τ sig) → Buf (Elt Ideal) ℓ) (h : Cert.Pre_KernelIdeal m) (d : Dev nD) : OkIds (sd m d) :=
  okIds_of _ _ _ _ (sd m d) (sd_id m d) (h d).1

theorem frame : Cert.quiescent_KernelIdeal := fun m g h =>
  (θ_run _ _ _).mono (fun _ q => ⟨fun c => (q.1 c).2, q.2⟩) (run_main m g (pre_ok m h))

end Cert.Proof.KernelIdeal

end
-- ==== Proof.Ideal.Seg.lean ====
/-
  Over the extended reals: what one tile's pure function leaves in a row of an accumulator is the fold of the tile's own rows of
  that segment, the ids being in range and in ascending order; and the thirty-two tiles' folds join to the fold of all rows.
-/
module

public import proofs.«01_k».proof.Proof.Ideal.Model
public import Idealize.ShloMosaic.PureOps.Ideal
public import Idealize.ShloMosaic.Lib.IdealHost
public import Idealize.ShloMosaic.Lib.ValueLayout

@[expose] public section

noncomputable section

namespace Cert.Proof.KernelIdeal

open Cert.KernelIdeal Cert.KernelIdeal.Gen
open Idealize.ShloMosaic Idealize.SL.Sem
open Idealize.ShloMosaic.ValueIdx (ix1 ix2)

/-! ## Folds over an initial run of numbers -/

section Fold
variable {α : Type} (op : α → α → α) (e : α)

/-- The fold of `f 0`, …, `f (n - 1)` from `e`. -/
def foldN (f : ℕ → α) : ℕ → α
  | 0 => e
  | n + 1 => op (foldN f n) (f n)

theorem foldN_congr (f g : ℕ → α) : ∀ n, (∀ i, i < n → f i = g i) → foldN op e f n = foldN op e g n
  | 0, _ => rfl
  | n + 1, h => by
    show op _ _ = op _ _
    rw [foldN_congr f g n fun i hi => h i (by omega), h n (by omega)]

variable [Std.Commutative op] [Std.Associative op] (he : ∀ x, op x e = x)
include he

theorem foldN_neutral (f : ℕ → α) : ∀ n, (∀ i, i < n → f i = e) → foldN op e f n = e
  | 0, _ => rfl
  | n + 1, h => by
    show op _ _ = e
    rw [foldN_neutral f n fun i hi => h i (by omega), h n (by omega), he]

theorem foldN_add (f : ℕ → α) (a : ℕ) : ∀ n, op (foldN op e f a) (foldN op e (fun i => f (a + i)) n) = foldN op e f (a + n)
  | 0 => he _
  | n + 1 => by
    show op _ (op _ _) = op (foldN op e f (a + n)) _
    rw [← Std.Associative.assoc (op := op), foldN_add f a n]; rfl

/-- The folds of consecutive stretches join. -/
theorem foldN_join (f : ℕ → α) (b : ℕ → ℕ) (l : ℕ → ℕ) (h0 : b 0 = 0) (h : ∀ w, b (w + 1) = b w + l w) :
    ∀ w, foldN op e (fun w => foldN op e (fun i => f (b w + i)) (l w)) w = foldN op e f (b w)
  | 0 => by rw [h0]; rfl
  | w + 1 => by
    show op _ _ = _
    rw [foldN_join f b l h0 h w, foldN_add op e he, h]

omit he in
theorem fold_range (f : ℕ → α) : ∀ n, (Finset.range n).fold op e f = foldN op e f n
  | 0 => rfl
  | n + 1 => by
    rw [Finset.range_add_one, Finset.fold_insert Finset.notMem_range_self, fold_range f n, Std.Commutative.comm (op := op)]; rfl

omit he in
theorem fold_fin (n : ℕ) (f : ℕ → α) : (Finset.univ : Finset (Fin n)).fold op e (fun i => f i.val) = foldN op e f n := by
  rw [← fold_range op e f n, ← Nat.Iio_eq_range, ← Fin.map_valEmbedding_univ, Finset.fold_map]; rfl

end Fold

/-! ## One number of a tile's running row, and of its accumulator -/

section Machine
variable {α : Type} (op : α → α → α) (e : α)

/-- The current segment, the running value, and the accumulator's row numbers. -/
structure Mach (α : Type) where
  cur : BitVec 32
  run : α
  acc : ℕ → α

def Mach.flush (s : Mach α) : Mach α := ⟨s.cur, s.run, Function.update s.acc (rowOf s.cur) s.run⟩
def Mach.step (s : Mach α) (g : BitVec 32) (x : α) : Mach α :=
  if g = s.cur then ⟨g, op s.run x, s.acc⟩ else ⟨g, x, s.flush.acc⟩

/-- The machine after `n` rows. -/
def runM (I : ℕ → BitVec 32) (X : ℕ → α) : ℕ → Mach α
  | 0 => ⟨4294967295#32, e, fun _ => e⟩
  | n + 1 => (runM I X n).step op (I n) (X n)

/-- The fold of the rows of segment `g`. -/
def seg (I : ℕ → BitVec 32) (X : ℕ → α) (g n : ℕ) : α := foldN op e (fun i => if (I i).toNat = g then X i else e) n

variable [Std.Commutative op] [Std.Associative op] (he : ∀ x, op x e = x)

theorem runM_cur (I : ℕ → BitVec 32) (X : ℕ → α) (n : ℕ) : (runM op e I X (n + 1)).cur = I n := by
  show ((runM op e I X n).step op _ _).cur = _
  unfold Mach.step; split <;> rfl

include he in
theorem runM_spec (I : ℕ → BitVec 32) (X : ℕ → α) (N : ℕ) (hI : ∀ i, i < N → (I i).toNat < 128)
    (hup : ∀ i j, i ≤ j → j < N → (I i).toNat ≤ (I j).toNat) : ∀ n, n + 1 ≤ N →
    (runM op e I X (n + 1)).run = seg op e I X (I n).toNat (n + 1)
      ∧ ∀ g, g ≠ (I n).toNat → (runM op e I X (n + 1)).acc g = seg op e I X g (n + 1)
  | 0, hn => by
    have h0 : ¬ I 0 = 4294967295#32 := fun h => absurd (hI 0 hn) (by rw [h]; decide)
    have hs : runM op e I X (0 + 1) = ⟨I 0, X 0, (runM op e I X 0).flush.acc⟩ := by
      show Mach.step op _ _ _ = _; unfold Mach.step; exact if_neg h0
    have hf : ∀ g, (runM op e I X 0).flush.acc g = e := fun g => by
      show Function.update (fun _ => e) _ e g = e
      by_cases hg : g = rowOf (4294967295#32)
      · subst hg; exact Function.update_self ..
      · exact Function.update_of_ne hg ..
    rw [hs]
    refine ⟨?_, fun g hg => ?_⟩
    · show X 0 = op e (if _ then _ else _)
      rw [if_pos rfl, Std.Commutative.comm (op := op), he]
    · rw [hf]
      show e = op e (if _ then _ else _)
      rw [if_neg (Ne.symm hg), he]
  | n + 1, hn => by
    obtain ⟨hr, ha⟩ := runM_spec I X N hI hup n (by omega)
    have hc := runM_cur op e I X n
    have hstep : runM op e I X (n + 1 + 1) = (runM op e I X (n + 1)).step op (I (n + 1)) (X (n + 1)) := rfl
    have hseg : ∀ g, seg op e I X g (n + 1 + 1) = op (seg op e I X g (n + 1)) (if (I (n + 1)).toNat = g then X (n + 1) else e) := fun _ => rfl
    have hoff : ∀ g, g ≠ (I (n + 1)).toNat → seg op e I X g (n + 1 + 1) = seg op e I X g (n + 1) := fun g hg => by
      rw [hseg, if_neg (Ne.symm hg), he]
    rw [hstep]
    unfold Mach.step
    by_cases hsame : I (n + 1) = I n
    · rw [if_pos (hsame.trans hc.symm)]
      refine ⟨?_, fun g hg => ?_⟩
      · show op _ _ = _
        rw [hseg, if_pos rfl, hr, hsame]
      · show (runM op e I X (n + 1)).acc g = _
        rw [hoff g hg, ha g (by rwa [hsame] at hg)]
    · rw [if_neg fun h => hsame (h.trans hc)]
      have hne : (I n).toNat ≠ (I (n + 1)).toNat := fun h => hsame (BitVec.eq_of_toNat_eq h.symm)
      have hlt : (I n).toNat < (I (n + 1)).toNat := lt_of_le_of_ne (hup n (n + 1) (by omega) (by omega)) hne
      have hrow : rowOf (runM op e I X (n + 1)).cur = (I n).toNat := by rw [hc]; exact rowOf_eq (hI n (by omega))
      refine ⟨?_, fun g hg => ?_⟩
      · show X (n + 1) = _
        have hz : seg op e I X (I (n + 1)).toNat (n + 1) = e := foldN_neutral op e he _ _ fun i hi =>
          if_neg (by have := hup i n (by omega) (by omega); omega)
        rw [hseg, if_pos rfl, hz, Std.Commutative.comm (op := op), he]
      · show Function.update (runM op e I X (n + 1)).acc _ _ g = _
        rw [hoff g hg, hrow]
        by_cases hgn : g = (I n).toNat
        · subst hgn; rw [Function.update_self, hr]
        · rw [Function.update_of_ne hgn, ha g hgn]

include he in
/-- After the last row's flush every row of the accumulator is its segment's fold. -/
theorem runM_fin (I : ℕ → BitVec 32) (X : ℕ → α) (n : ℕ) (hn : 0 < n) (hI : ∀ i, i < n → (I i).toNat < 128)
    (hup : ∀ i j, i ≤ j → j < n → (I i).toNat ≤ (I j).toNat) (g : ℕ) : (runM op e I X n).flush.acc g = seg op e I X g n := by
  obtain ⟨k, rfl⟩ : ∃ k, n = k + 1 := ⟨n - 1, by omega⟩
  obtain ⟨hr, ha⟩ := runM_spec op e he I X (k + 1) hI hup k le_rfl
  have hc := runM_cur op e I X k
  show Function.update (runM op e I X (k + 1)).acc _ _ g = _
  rw [hc, rowOf_eq (hI k (by omega))]
  by_cases hg : g = (I k).toNat
  · subst hg; rw [Function.update_self, hr]
  · rw [Function.update_of_ne hg, ha g hg]

end Machine

/-! ## The tile's function, number by number -/

theorem cond_iff (c g : BitVec 32) : k0_cond1 c g = 1#1 ↔ g ≠ c := by
  unfold k0_cond1 Scalar.cmpi IntOp.cmpi Scalar.extui
  by_cases h : g = c
  · subst h; simp
  · have hb : (g != c) = true := by simpa using h
    simp [h, hb]

theorem select_of {α : Type} (c g : BitVec 32) (a b : α) :
    Scalar.select (Scalar.cmpi .ne g c) a b = if g = c then b else a := by
  unfold Scalar.select Scalar.cmpi IntOp.cmpi
  by_cases h : g = c
  · subst h; simp
  · have hb : (g != c) = true := by simpa using h
    simp [h, hb]

section Tile
variable (n : S50000x256.Idx → Elt Ideal .f32) (s : S50016.Idx → BitVec 32)

/-- Column `c` of row `R`. -/
def colOf (c : Fin 256) (R : ℕ) : EReal := n (ix2 ⟨R % 50000, Nat.mod_lt _ (by decide)⟩ c)

/-- A lane of a row's lane vectors is the column it stands for. -/
theorem xOf_lane (R : ℕ) (c : Fin 256) (h : S1x16.ShapeCasts S16) :
    shapeCast S16 (xOf n R (pc (ix2 (0 : Fin 128) c))) h (ix1 (pl (ix2 (0 : Fin 128) c))) = colOf n c R := by
  rw [ValueIdx.shapeCast_1a_a_apply]
  exact congrArg n (by
    funext a
    match a with
    | 0 => rfl
    | 1 => exact Fin.ext (show 16 * (c.val / 16) + c.val % 16 = c.val by omega))

/-- A tile's running number `run` and the numbers `acc` of its accumulators' rows are a machine's. -/
theorem tile_proj (op : EReal → EReal → EReal) (e : EReal) (X : ℕ → EReal) (R : ℕ) (run : St Ideal → EReal)
    (acc : AccM Ideal → AccM Ideal → AccC Ideal → Fin 128 → EReal)
    (h0r : run St.init = e) (h0a : ∀ g, acc (TS.init (F := Ideal)).M (TS.init (F := Ideal)).A (TS.init (F := Ideal)).C g = e)
    (hrun : ∀ st r, run (st.step (idOf s r) (xOf n r)) = if idOf s r = st.cur then op (run st) (X r) else X r)
    (hacc : ∀ (T : TS Ideal) g, acc T.flush.M T.flush.A T.flush.C g = if g.val = rowOf T.st.cur then run T.st else acc T.M T.A T.C g) : ∀ m,
    (runM op e (fun i => idOf s (R + i)) (fun i => X (R + i)) m).cur = (runT n s R m).st.cur
    ∧ (runM op e (fun i => idOf s (R + i)) (fun i => X (R + i)) m).run = run (runT n s R m).st
    ∧ ∀ g : Fin 128, (runM op e (fun i => idOf s (R + i)) (fun i => X (R + i)) m).acc g.val = acc (runT n s R m).M (runT n s R m).A (runT n s R m).C g
  | 0 => ⟨rfl, h0r.symm, fun g => (h0a g).symm⟩
  | m + 1 => by
    obtain ⟨hc, hr, ha⟩ := tile_proj op e X R run acc h0r h0a hrun hacc m
    have hM : runM op e (fun i => idOf s (R + i)) (fun i => X (R + i)) (m + 1)
        = (runM op e (fun i => idOf s (R + i)) (fun i => X (R + i)) m).step op (idOf s (R + m)) (X (R + m)) := rfl
    have hT : runT n s R (m + 1) = (runT n s R m).step (idOf s (R + m)) (xOf n (R + m)) := rfl
    rw [hM, hT, TS.step_st, hrun]
    unfold Mach.step TS.step
    rw [hc]
    by_cases h : idOf s (R + m) = (runT n s R m).st.cur
    · rw [if_pos h, if_pos h, if_neg (fun hk => (cond_iff _ _).mp hk h)]
      exact ⟨rfl, by rw [hr], ha⟩
    · rw [if_neg h, if_neg h, if_pos ((cond_iff _ _).mpr h)]
      refine ⟨rfl, rfl, fun g => ?_⟩
      show (Function.update (β := fun _ => EReal) _ _ _ g.val) = acc (runT n s R m).flush.M (runT n s R m).flush.A (runT n s R m).flush.C g
      rw [hacc, Function.update_apply, hc, hr, ha]

/-- What is needed of the ids: in range, and in ascending order. -/
structure OkSeg : Prop where
  lt : ∀ R, R < 50000 → (idOf s R).toNat < 128
  up : ∀ R R', R ≤ R' → R' < 50000 → (idOf s R).toNat ≤ (idOf s R').toNat

theorem tile_end {w : ℕ} (hw : w < 32) : baseOf w + 16 * groupsOf w ≤ 50000 := by
  unfold baseOf groupsOf; split <;> omega

/-- A row of an accumulator a tile leaves is the fold of the tile's rows of that segment. -/
theorem tile_fin (hs : OkSeg s) (op : EReal → EReal → EReal) [Std.Commutative op] [Std.Associative op] (e : EReal) (he : ∀ x, op x e = x)
    (X : ℕ → EReal) (run : St Ideal → EReal)
    (acc : AccM Ideal → AccM Ideal → AccC Ideal → Fin 128 → EReal)
    (h0r : run St.init = e) (h0a : ∀ g, acc (TS.init (F := Ideal)).M (TS.init (F := Ideal)).A (TS.init (F := Ideal)).C g = e)
    (hrun : ∀ st r, run (st.step (idOf s r) (xOf n r)) = if idOf s r = st.cur then op (run st) (X r) else X r)
    (hacc : ∀ (T : TS Ideal) g, acc T.flush.M T.flush.A T.flush.C g = if g.val = rowOf T.st.cur then run T.st else acc T.M T.A T.C g)
    {w : ℕ} (hw : w < 32) (g : Fin 128) :
    acc (finT n s w).M (finT n s w).A (finT n s w).C g
      = foldN op e (fun i => if (idOf s (baseOf w + i)).toNat = g.val then X (baseOf w + i) else e) (16 * groupsOf w) := by
  have hb := tile_end hw
  have hn : 0 < 16 * groupsOf w := by unfold groupsOf; omega
  obtain ⟨hc, hr, ha⟩ := tile_proj n s op e X (baseOf w) run acc h0r h0a hrun hacc (16 * groupsOf w)
  have hf := runM_fin op e he (fun i => idOf s (baseOf w + i)) (fun i => X (baseOf w + i)) (16 * groupsOf w) hn
    (fun i hi => hs.lt _ (by omega)) (fun i j hij hj => hs.up _ _ (by omega) (by omega)) g.val
  refine Eq.trans ?_ hf
  show acc (runT n s (baseOf w) (16 * groupsOf w)).flush.M (runT n s (baseOf w) (16 * groupsOf w)).flush.A (runT n s (baseOf w) (16 * groupsOf w)).flush.C g = (Function.update (β := fun _ => EReal) _ _ _ g.val)
  rw [hacc, Function.update_apply, hc, hr, ha]

/-- The thirty-two tiles' rows together are all rows. -/
theorem tiles_fin (hs : OkSeg s) (op : EReal → EReal → EReal) [Std.Commutative op] [Std.Associative op] (e : EReal) (he : ∀ x, op x e = x)
    (X : ℕ → EReal) (run : St Ideal → EReal)
    (acc : AccM Ideal → AccM Ideal → AccC Ideal → Fin 128 → EReal)
    (h0r : run St.init = e) (h0a : ∀ g, acc (TS.init (F := Ideal)).M (TS.init (F := Ideal)).A (TS.init (F := Ideal)).C g = e)
    (hrun : ∀ st r, run (st.step (idOf s r) (xOf n r)) = if idOf s r = st.cur then op (run st) (X r) else X r)
    (hacc : ∀ (T : TS Ideal) g, acc T.flush.M T.flush.A T.flush.C g = if g.val = rowOf T.st.cur then run T.st else acc T.M T.A T.C g)
    (g : Fin 128) :
    (Finset.univ : Finset (Fin 32)).fold op e (fun w => acc (finT n s w.val).M (finT n s w.val).A (finT n s w.val).C g)
      = seg op e (idOf s) X g.val 50000 := by
  rw [fold_fin op e 32 (fun w => acc (finT n s w).M (finT n s w).A (finT n s w).C g)]
  rw [foldN_congr op e _ _ 32 fun w hw => tile_fin n s hs op e he X run acc h0r h0a hrun hacc hw g]
  exact foldN_join op e he (fun r => if (idOf s r).toNat = g.val then X r else e) baseOf (fun w => 16 * groupsOf w) rfl
    (fun w => by unfold baseOf groupsOf; split <;> omega) 32

/-- Addition, with its two laws. -/
def addE (x y : EReal) : EReal := x + y
instance : Std.Commutative addE := ⟨fun x y => add_comm x y⟩
instance : Std.Associative addE := ⟨fun x y z => add_assoc x y z⟩

theorem pay_bot : (k0_pay2719 (F := Ideal)) = fun _ => (⊥ : EReal) := by
  funext y; show Ideal.ofBits .f32 0xFF800000#32 = ⊥; simp [Ideal.ofBits, Ideal.ieee]
theorem pay_zero : (k0_pay2720 (F := Ideal)) = fun _ => (0 : EReal) := by
  funext y; show Ideal.ofBits .f32 0x00000000#32 = 0; simp [Ideal.ofBits, Ideal.ieee]
theorem pay_one : (k0_pay2721 (F := Ideal)) = fun _ => (1 : EReal) := by
  funext y; exact Idealize.ShloMosaic.Ideal.ofBits_one_f32

theorem pc_col (g : Fin 128) (c : Fin 256) : pc (ix2 g c) = pc (ix2 (0 : Fin 128) c) := rfl

/-- The maxima of the tiles, joined. -/
theorem tiles_max (hs : OkSeg s) (g : Fin 128) (c : Fin 256) :
    (Finset.univ : Finset (Fin 32)).fold max (⊥ : EReal) (fun w => (finT n s w.val).M (ix2 g c)) = seg max ⊥ (idOf s) (colOf n c) g.val 50000 :=
  tiles_fin n s hs max ⊥ (fun x => max_bot_right x) (colOf n c) (fun st => st.mx (pc (ix2 (0 : Fin 128) c)) (ix1 (pl (ix2 (0 : Fin 128) c))))
    (fun M _ _ g => M (ix2 g c))
    (congrFun pay_bot (ix1 (pl (ix2 (0 : Fin 128) c))))
    (fun g => congrFun pay_bot (ix1 (pl (ix2 g c))))
    (fun st r => by
      show Scalar.select (Scalar.cmpi .ne (idOf s r) st.cur) (shapeCast S16 (xOf n r _) shapeCasts_S1x16_S16) (maximumf (st.mx _) (shapeCast S16 (xOf n r _) shapeCasts_S1x16_S16)) _ = _
      rw [select_of]
      split
      · rw [ValueIdx.maximumf_apply, xOf_lane]
      · rw [xOf_lane])
    (fun T g => rfl) g

/-- The sums of the tiles, joined. -/
theorem tiles_sum (hs : OkSeg s) (g : Fin 128) (c : Fin 256) :
    (Finset.univ : Finset (Fin 32)).fold addE (0 : EReal) (fun w => (finT n s w.val).A (ix2 g c)) = seg addE 0 (idOf s) (colOf n c) g.val 50000 :=
  tiles_fin n s hs addE 0 (fun x => add_zero x) (colOf n c) (fun st => st.sm (pc (ix2 (0 : Fin 128) c)) (ix1 (pl (ix2 (0 : Fin 128) c))))
    (fun _ A _ g => A (ix2 g c))
    (congrFun pay_zero (ix1 (pl (ix2 (0 : Fin 128) c))))
    (fun g => congrFun pay_zero (ix1 (pl (ix2 g c))))
    (fun st r => by
      show Scalar.select (Scalar.cmpi .ne (idOf s r) st.cur) (shapeCast S16 (xOf n r _) shapeCasts_S1x16_S16) (addf (st.sm _) (shapeCast S16 (xOf n r _) shapeCasts_S1x16_S16)) _ = _
      rw [select_of]
      split
      · rw [ValueIdx.addf_apply, xOf_lane]; rfl
      · rw [xOf_lane])
    (fun T g => rfl) g

/-- The counts of the tiles, joined. -/
theorem tiles_cnt (hs : OkSeg s) (g : Fin 128) (l : Fin 16) :
    (Finset.univ : Finset (Fin 32)).fold addE (0 : EReal) (fun w => (finT n s w.val).C (ix2 g l)) = seg addE 0 (idOf s) (fun _ => 1) g.val 50000 :=
  tiles_fin n s hs addE 0 (fun x => add_zero x) (fun _ => 1) (fun st => st.cnt (ix1 l))
    (fun _ _ C g => C (ix2 g l))
    (congrFun pay_zero (ix1 l))
    (fun g => congrFun pay_zero (ix1 l))
    (fun st r => by
      show Scalar.select (Scalar.cmpi .ne (idOf s r) st.cur) (k0_pay2721 (F := Ideal)) (addf st.cnt (k0_pay2721 (F := Ideal))) _ = _
      rw [select_of]
      split
      · rw [ValueIdx.addf_apply, pay_one]; rfl
      · rw [pay_one])
    (fun T g => rfl) g
end Tile

end Cert.Proof.KernelIdeal

end
-- ==== Proof.Ideal.Side.lean ====
/-
  The combining kernel's result read at an index, over the extended reals: of the maxima, sums and counts of the thirty-two tiles.
-/
module

public import proofs.«01_k».proof.Proof.Ideal.Seg
public import proofs.«01_k».proof.Proof.Ideal.Region
public import Idealize.ShloMosaic.Lib.Pipeline.Value

@[expose] public section

noncomputable section

namespace Cert.Proof.KernelIdeal

open Cert.KernelIdeal Cert.KernelIdeal.Gen
open Idealize.ShloMosaic hiding ix1 ix2 ix3
open Idealize.SL.Sem
open Idealize.ShloMosaic.ValueIdx (ix1 ix2 ix3)

/-- A sum is the fold of addition. -/
theorem sum_fold {ι : Type} (s : Finset ι) (f : ι → EReal) : ∑ i ∈ s, f i = s.fold addE 0 f := rfl

/-- The result at a maximum's column, from its three parts. -/
def resM (mx g b : EReal) : EReal := mx * g + b
/-- The result at a mean's column. -/
def resA (sm cn g b : EReal) : EReal := Ideal.div sm (max cn 1) * g + b

variable (x : Ent Ideal)

theorem lift_tile {n l : ℕ} (h : Shape.Reduces ⟨3, ![32, n, l]⟩ [0] ⟨2, ![n, l]⟩) (i : Fin n) (j : Fin l) (w : Fin 32) :
    h.lift (ix2 i j) w = ix3 w i j := by
  funext b
  apply Fin.ext
  match b with
  | 0 => rfl
  | 1 => rfl
  | 2 => rfl

theorem cat_left (p q : FVec Ideal S128x256 .f32) (g : Fin 128) (c : Fin 256) :
    concatenate S128x512 1 [⟨S128x256, p⟩, ⟨S128x256, q⟩] concatenates_S128x256_S128x256_S128x512_d1 (ix2 g ⟨c.val, by have := c.isLt; omega⟩) = p (ix2 g c) :=
  concatenate_pair_apply_left (t := S128x512) (s₁ := S128x256) (s₂ := S128x256) 1 p q _ _ rfl (ix2 g c) (by intro b; match b with | 0 => rfl | 1 => rfl)
theorem cat_right (p q : FVec Ideal S128x256 .f32) (g : Fin 128) (c : Fin 256) :
    concatenate S128x512 1 [⟨S128x256, p⟩, ⟨S128x256, q⟩] concatenates_S128x256_S128x256_S128x512_d1 (ix2 g ⟨256 + c.val, by have := c.isLt; omega⟩) = q (ix2 g c) :=
  concatenate_pair_apply_right (t := S128x512) (s₁ := S128x256) (s₂ := S128x256) 1 p q _ _ rfl rfl (ix2 g c)
    (by intro b hb; match b with | 0 => rfl | 1 => exact absurd rfl hb) (Nat.add_comm _ _)

/-- The gain and the bias, laid along the rows. -/
theorem scale_at (y : FVec Ideal S128x512 .f32) (a b : FVec Ideal S1x512 .f32) (g : Fin 128) (k : Fin 512) :
    addf (mulf y (broadcastTo S128x512 (shapeCast S1x512 a shapeCasts_S1x512_S1x512) broadcasts_S1x512_S128x512))
        (broadcastTo S128x512 (shapeCast S1x512 b shapeCasts_S1x512_S1x512) broadcasts_S1x512_S128x512) (ix2 g k)
      = y (ix2 g k) * a (ix2 0 k) + b (ix2 0 k) := by
  rw [Idealize.ShloMosaic.shapeCast_self, Idealize.ShloMosaic.shapeCast_self, ValueIdx.addf_apply, ValueIdx.mulf_apply, ValueIdx.broadcastTo_1b_ab_apply, ValueIdx.broadcastTo_1b_ab_apply]

theorem tile_max (v : FVec Ideal S32x128x256 .f32) (hφ) (ha) (g : Fin 128) (c : Fin 256) :
    multiReduction .maximumf [0] S128x256 (shapeCast S32x128x256 v shapeCasts_S32x128x256_S32x128x256) 0xFF800000#32 reduces_S32x128x256_S128x256 hφ ha (ix2 g c)
      = (Finset.univ : Finset (Fin 32)).fold max (⊥ : EReal) fun w => v (ix3 w g c) := by
  rw [Idealize.ShloMosaic.shapeCast_self]
  refine (Ideal.multiReduction_maximumf_single v _ _ _ _ (ix2 g c)).trans ?_
  exact congr (congrArg (fun e : EReal => Finset.fold max e) (congrFun pay_bot (ix1 0))) (funext fun w => congrArg v (lift_tile _ g c w)) |> (congrFun · Finset.univ)

theorem tile_sum {n l : ℕ} (v : FVec Ideal ⟨3, ![32, n, l]⟩ .f32) (h : Shape.Reduces ⟨3, ![32, n, l]⟩ [0] ⟨2, ![n, l]⟩)
    (hc : Shape.ShapeCasts ⟨3, ![32, n, l]⟩ ⟨3, ![32, n, l]⟩) (hφ) (ha) (g : Fin n) (c : Fin l) :
    multiReduction .add [0] ⟨2, ![n, l]⟩ (shapeCast ⟨3, ![32, n, l]⟩ v hc) 0x00000000#32 h hφ ha (ix2 g c)
      = (Finset.univ : Finset (Fin 32)).fold addE 0 fun w => v (ix3 w g c) := by
  rw [Idealize.ShloMosaic.shapeCast_self]
  refine (Ideal.multiReduction_add_single v _ _ _ _ (ix2 g c)).trans ?_
  exact (Finset.sum_congr rfl fun w _ => congrArg v (lift_tile _ g c w)).trans (sum_fold _ _)

theorem first_col (y : FVec Ideal S128x16 .f32) (g : Fin 128) : extractStridedSlice S128x1 ![0, 0] y slices_S128x16_o0_0_S128x1 (ix2 g 0) = y (ix2 g 0) := by
  unfold extractStridedSlice
  refine congrArg y (funext fun a => Fin.ext ?_)
  match a with
  | 0 => exact Nat.zero_add _
  | 1 => rfl

theorem comb_max (g : Fin 128) (c : Fin 256) :
    comb x (ix2 g ⟨c.val, by have := c.isLt; omega⟩)
      = resM ((Finset.univ : Finset (Fin 32)).fold max (⊥ : EReal) fun w => x.M (ix3 w g c)) (x.g (ix2 0 ⟨c.val, by have := c.isLt; omega⟩)) (x.b (ix2 0 ⟨c.val, by have := c.isLt; omega⟩)) := by
  unfold comb k1_pay1
  refine (scale_at _ x.g x.b g _).trans ?_
  rw [cat_left]
  exact congrArg (fun e : EReal => resM e (x.g (ix2 0 ⟨c.val, by have := c.isLt; omega⟩)) (x.b (ix2 0 ⟨c.val, by have := c.isLt; omega⟩))) (tile_max x.M _ _ g c)

theorem comb_mean (g : Fin 128) (c : Fin 256) :
    comb x (ix2 g ⟨256 + c.val, by have := c.isLt; omega⟩)
      = resA ((Finset.univ : Finset (Fin 32)).fold addE 0 fun w => x.A (ix3 w g c)) ((Finset.univ : Finset (Fin 32)).fold addE 0 fun w => x.C (ix3 w g 0))
        (x.g (ix2 0 ⟨256 + c.val, by have := c.isLt; omega⟩)) (x.b (ix2 0 ⟨256 + c.val, by have := c.isLt; omega⟩)) := by
  unfold comb k1_pay1
  refine (scale_at _ x.g x.b g _).trans ?_
  rw [cat_right]
  refine congrArg (fun e : EReal => e * _ + _) ?_
  refine congrArg₂ Ideal.div (tile_sum x.A _ _ _ _ g c) ?_
  refine (broadcastTo_apply _ _ (ix2 g c) (ix2 g 0) (by intro a; match a with | 0 => rfl | 1 => rfl)).trans ?_
  refine congrArg₂ (max : EReal → EReal → EReal) ?_ Idealize.ShloMosaic.Ideal.ofBits_one_f32
  refine Eq.trans ?_ (tile_sum x.C reduces_S32x128x16_S128x16 shapeCasts_S32x128x16_S32x128x16 (.inl rfl) rfl g 0)
  exact first_col _ g

end Cert.Proof.KernelIdeal

end
-- ==== Proof.Ideal.Ref.lean ====
/-
  The reference's result read at an index, over the extended reals.
-/
module

public import proofs.«01_k».proof.Proof.Ideal.Seg
public import proofs.«01_k».proof.Proof.Gen.ReferenceIdeal.Run
public import Idealize.ShloMosaic.Lib.Pipeline.Value
public import Idealize.ShloMosaic.Lib.Routing.OpsPair
public import Idealize.ShloMosaic.Lib.Pointwise.Index

@[expose] public section

noncomputable section

namespace Cert.Proof.Ref

open Cert.ReferenceIdeal Cert.ReferenceIdeal.Gen
open Idealize.ShloMosaic hiding ix1 ix2 ix3
open Idealize.SL.Sem
open Idealize.ShloMosaic.ValueIdx (ix1 ix2 ix3)
open Cert.Proof.KernelIdeal (seg addE foldN fold_fin)

variable (n : FVec Ideal S50000x256 .f32) (s : IVec S50000 32) (a b : FVec Ideal S512 .f32)

/-- The id of row `R`. -/
def idR (R : ℕ) : BitVec 32 := s (ix1 ⟨R % 50000, Nat.mod_lt _ (by decide)⟩)
theorem idR_fin (R : Fin 50000) : idR s R.val = s (ix1 R) :=
  congrArg s (congrArg ix1 (Fin.ext (Nat.mod_eq_of_lt R.isLt)))
theorem colOf_fin (c : Fin 256) (R : Fin 50000) : Cert.Proof.KernelIdeal.colOf n c R.val = n (ix2 R c) :=
  congrArg n (congrArg (fun r => ix2 r c) (Fin.ext (Nat.mod_eq_of_lt R.isLt)))

/-- The ids as a column. -/
abbrev idCol : IVec S50000x1 32 := broadcastInDim S50000x1 ![0] bcast_S50000_S50000x1_0 s
theorem idCol_at (R : Fin 50000) (z : Fin 1) : idCol s (ix2 R z) = s (ix1 R) := by
  unfold idCol broadcastInDim
  exact congrArg s (funext fun a => by match a with | ⟨0, _⟩ => rfl)

theorem toInt_small (x : BitVec 32) (g : Fin 128) : x.toInt = (g.val : Int) ↔ x.toNat = g.val := by
  have := g.isLt; have := x.isLt
  rw [BitVec.toInt_eq_toNat_cond]
  split <;> omega

/-! ## The scatters -/

theorem lands_mat (R : Fin 50000) (c' : Fin 256) (g : Fin 128) (c : Fin 256) :
    scatter_S128x256_S50000x1_S50000x256_1_0_0_1.resultIdx? (ix2 R c') (idCol s) = some (ix2 g c) ↔ (s (ix1 R)).toNat = g.val ∧ c' = c := by
  have h0 : scatter_S128x256_S50000x1_S50000x256_1_0_0_1.start (ix2 R c') (idCol s) 0 = (s (ix1 R)).toInt := by
    rw [← idCol_at s R 0]
    unfold ScatterDims.start
    refine (dif_pos (List.mem_singleton.2 rfl)).trans ?_
    refine congrArg (fun i => (idCol s i).toInt) (funext fun b => ?_)
    match b with
    | ⟨0, _⟩ => rfl
    | ⟨1, _⟩ => rfl
  have h1 : scatter_S128x256_S50000x1_S50000x256_1_0_0_1.start (ix2 R c') (idCol s) 1 = 0 := rfl
  have w0 : scatter_S128x256_S50000x1_S50000x256_1_0_0_1.window (ix2 R c') 0 = 0 := rfl
  have w1 : scatter_S128x256_S50000x1_S50000x256_1_0_0_1.window (ix2 R c') 1 = c'.val := rfl
  rw [Routing.resultIdx?_ix2, h0, h1, w0, w1, ← toInt_small, Fin.ext_iff]
  omega

theorem lands_vec (R : Fin 50000) (g : Fin 128) :
    scatter_S128_S50000x1_S50000_n_0_0_1.resultIdx? (ix1 R) (idCol s) = some (ix1 g) ↔ (s (ix1 R)).toNat = g.val := by
  have h0 : scatter_S128_S50000x1_S50000_n_0_0_1.start (ix1 R) (idCol s) 0 = (s (ix1 R)).toInt := by
    rw [← idCol_at s R 0]
    unfold ScatterDims.start
    refine (dif_pos (List.mem_singleton.2 rfl)).trans ?_
    refine congrArg (fun i => (idCol s i).toInt) (funext fun b => ?_)
    match b with
    | ⟨0, _⟩ => rfl
    | ⟨1, _⟩ => rfl
  have w0 : scatter_S128_S50000x1_S50000_n_0_0_1.window (ix1 R) 0 = 0 := rfl
  rw [Routing.resultIdx?_ix1, h0, w0, ← toInt_small]
  omega

theorem seg_sum (X : ℕ → EReal) (g : Fin 128) :
    (∑ R : Fin 50000, if (s (ix1 R)).toNat = g.val then X R.val else 0) = seg addE 0 (idR s) X g.val 50000 := by
  unfold seg
  rw [← fold_fin addE (0 : EReal) 50000]
  refine Eq.trans ?_ (rfl : ∑ R : Fin 50000, (if (idR s R.val).toNat = g.val then X R.val else 0) = _)
  exact Finset.sum_congr rfl fun R _ => by rw [idR_fin]

theorem zero_bits : (FloatOps.ofBits .f32 0x00000000#32 : Ideal .f32) = (0 : EReal) := by
  show Ideal.ofBits .f32 0x00000000#32 = 0; simp [Ideal.ofBits, Ideal.ieee]

theorem scat_mat (g : Fin 128) (c : Fin 256) :
    Host.scatterAdd scatter_S128x256_S50000x1_S50000x256_1_0_0_1 (broadcastInDim S128x256 ![] bcast_S_S128x256 (constant S_ .f32 0x00000000#32)) (idCol s) n (ix2 g c)
      = seg addE 0 (idR s) (Cert.Proof.KernelIdeal.colOf n c) g.val 50000 := by
  show (FloatOps.ofBits .f32 0x00000000#32 : Ideal .f32) + ∑ j ∈ Finset.univ.filter (fun j => scatter_S128x256_S50000x1_S50000x256_1_0_0_1.resultIdx? j (idCol s) = some (ix2 g c)), n j = _
  rw [zero_bits, zero_add, Finset.sum_filter, ValueIdx.sum_idx2, ← seg_sum]
  refine Finset.sum_congr rfl fun R _ => ?_
  rw [colOf_fin]
  simp only [lands_mat]
  by_cases h : (s (ix1 R)).toNat = g.val
  · simp [h]
  · simp [h]

theorem scat_vec (g : Fin 128) :
    Host.scatterAdd scatter_S128_S50000x1_S50000_n_0_0_1 (broadcastInDim S128 ![] bcast_S_S128 (constant S_ .f32 0x00000000#32)) (idCol s)
        (broadcastInDim S50000 ![] bcast_S_S50000 (constant (F := Ideal) S_ .f32 0x3F800000#32)) (ix1 g)
      = seg addE 0 (idR s) (fun _ => 1) g.val 50000 := by
  show (FloatOps.ofBits .f32 0x00000000#32 : Ideal .f32) + ∑ j ∈ Finset.univ.filter (fun j => scatter_S128_S50000x1_S50000_n_0_0_1.resultIdx? j (idCol s) = some (ix1 g)),
    (Ideal.ofBits .f32 0x3F800000#32) = _
  rw [zero_bits, zero_add, Finset.sum_filter, Idealize.ShloMosaic.sum_idx1, ← seg_sum, Idealize.ShloMosaic.Ideal.ofBits_one_f32]
  refine Finset.sum_congr rfl fun R _ => ?_
  exact if_congr (lands_vec s R g) rfl rfl

/-! ## The maxima -/

/-- The rows of the segments, minus infinity elsewhere. -/
def masked : FVec Ideal S50000x128x256 .f32 := select (broadcastInDim S50000x128x256 ![0, 1, 2] bcast_S50000x128x1_S50000x128x256_0_1_2 (broadcastInDim S50000x128x1 ![0, 1] bcast_S50000x128_S50000x128x1_0_1 (cmpi .eq (broadcastInDim S50000x128 ![0, 1] bcast_S50000x1_S50000x128_0_1 (broadcastInDim S50000x1 ![0] bcast_S50000_S50000x1_0 s)) (broadcastInDim S50000x128 ![0, 1] bcast_S1x128_S50000x128_0_1 (broadcastInDim S1x128 ![1] bcast_S128_S1x128_1 (iotaInDim S128 32 0)))))) (broadcastInDim S50000x128x256 ![0, 1, 2] bcast_S50000x1x256_S50000x128x256_0_1_2 (broadcastInDim S50000x1x256 ![0, 2] bcast_S50000x256_S50000x1x256_0_2 n)) (broadcastInDim S50000x128x256 ![] bcast_S_S50000x128x256 (id (constant S_ .f32 0xFF800000#32)))
/-- The segments' maxima. -/
def maxT : FVec Ideal S128x256 .f32 := Host.reduce FloatOps.maximumf (masked n s) (constant S_ .f32 0xFF800000#32) reducesTo_S50000x128x256_S128x256_d0 h_S_
/-- The segments' means. -/
def meanT : FVec Ideal S128x256 .f32 := Host.divf (Host.scatterAdd scatter_S128x256_S50000x1_S50000x256_1_0_0_1 (broadcastInDim S128x256 ![] bcast_S_S128x256 (constant S_ .f32 0x00000000#32)) (broadcastInDim S50000x1 ![0] bcast_S50000_S50000x1_0 s) n) (broadcastInDim S128x256 ![0, 1] bcast_S128x1_S128x256_0_1 (broadcastInDim S128x1 ![0] bcast_S128_S128x1_0 (maximumf (Host.scatterAdd scatter_S128_S50000x1_S50000_n_0_0_1 (broadcastInDim S128 ![] bcast_S_S128 (constant S_ .f32 0x00000000#32)) (broadcastInDim S50000x1 ![0] bcast_S50000_S50000x1_0 s) (broadcastInDim S50000 ![] bcast_S_S50000 (constant S_ .f32 0x3F800000#32))) (broadcastInDim S128 ![] bcast_S_S128 (constant S_ .f32 0x3F800000#32)))))
/-- The whole result. -/
def refT : FVec Ideal S128x512 .f32 := addf (mulf (concatenate S128x512 1 [⟨S128x256, maxT n s⟩, ⟨S128x256, meanT n s⟩] concatenates_S128x256_S128x256_S128x512_d1) (broadcastInDim S128x512 ![0, 1] bcast_S1x512_S128x512_0_1 (broadcastInDim S1x512 ![1] bcast_S512_S1x512_1 a))) (broadcastInDim S128x512 ![0, 1] bcast_S1x512_S128x512_0_1 (broadcastInDim S1x512 ![1] bcast_S512_S1x512_1 b))

theorem bot_bits : (FloatOps.ofBits .f32 0xFF800000#32 : Ideal .f32) = (⊥ : EReal) := by
  show Ideal.ofBits .f32 0xFF800000#32 = ⊥; simp [Ideal.ofBits, Ideal.ieee]

theorem bcast_at {α : Type} {s t : Shape} (dims : Fin s.rank → Fin t.rank) (h : s.BroadcastsInDim t dims) (x : s.Idx → α) (j : t.Idx) (k : s.Idx)
    (hk : ∀ r, (k r).val = if s.size r = 1 then 0 else (j (dims r)).val) : broadcastInDim t dims h x j = x k := by
  unfold broadcastInDim
  refine congrArg x (funext fun r => Fin.ext ?_)
  rw [hk r]
  split <;> rfl

theorem mask_at (R : Fin 50000) (g : Fin 128) (c : Fin 256) :
    broadcastInDim S50000x128x256 ![0, 1, 2] bcast_S50000x128x1_S50000x128x256_0_1_2 (broadcastInDim S50000x128x1 ![0, 1] bcast_S50000x128_S50000x128x1_0_1
        (cmpi .eq (broadcastInDim S50000x128 ![0, 1] bcast_S50000x1_S50000x128_0_1 (idCol s))
          (broadcastInDim S50000x128 ![0, 1] bcast_S1x128_S50000x128_0_1 (broadcastInDim S1x128 ![1] bcast_S128_S1x128_1 (iotaInDim S128 32 0))))) (ix3 R g c)
      = Scalar.cmpi .eq (s (ix1 R)) (BitVec.ofNat 32 g.val) := by
  rw [bcast_at _ _ _ (ix3 R g c) (ix3 R g 0) (by intro r; match r with | 0 => rfl | 1 => rfl | 2 => rfl),
    bcast_at _ _ _ (ix3 R g 0) (ix2 R g) (by intro r; match r with | 0 => rfl | 1 => rfl)]
  refine congrArg₂ (Scalar.cmpi .eq) ?_ ?_
  · exact (bcast_at _ _ _ (ix2 R g) (ix2 R 0) (by intro r; match r with | 0 => rfl | 1 => rfl)).trans (idCol_at s R 0)
  · refine (bcast_at _ _ _ (ix2 R g) (ix2 0 g) (by intro r; match r with | 0 => rfl | 1 => rfl)).trans ?_
    exact (bcast_at _ _ _ (ix2 0 g) (ix1 g) (by intro r; match r with | 0 => rfl)).trans rfl

theorem eq_small (x : BitVec 32) (g : Fin 128) (u v : EReal) :
    Scalar.select (Scalar.cmpi .eq x (BitVec.ofNat 32 g.val)) u v = if x.toNat = g.val then u else v := by
  have hg : (BitVec.ofNat 32 g.val).toNat = g.val := by rw [BitVec.toNat_ofNat]; exact Nat.mod_eq_of_lt (by have := g.isLt; omega)
  have h : x = BitVec.ofNat 32 g.val ↔ x.toNat = g.val := ⟨fun e => by rw [e, hg], fun e => BitVec.eq_of_toNat_eq (by rw [e, hg])⟩
  unfold Scalar.select Scalar.cmpi IntOp.cmpi
  by_cases e : x = BitVec.ofNat 32 g.val
  · rw [if_pos (h.1 e)]; subst e; simp
  · rw [if_neg (fun q => e (h.2 q))]; simp; intro q; rw [beq_false_of_ne e] at q; exact absurd q (by decide)

theorem masked_at (R : Fin 50000) (g : Fin 128) (c : Fin 256) :
    masked n s (ix3 R g c) = if (s (ix1 R)).toNat = g.val then n (ix2 R c) else (⊥ : EReal) := by
  rw [← eq_small, ← mask_at s R g c]
  refine congrArg₂ (Scalar.select _) ?_ bot_bits
  refine (bcast_at _ _ _ (ix3 R g c) (ix3 R 0 c) (by intro r; match r with | 0 => rfl | 1 => rfl | 2 => rfl)).trans ?_
  exact bcast_at _ _ _ (ix3 R 0 c) (ix2 R c) (by intro r; match r with | 0 => rfl | 1 => rfl)

theorem red3 : S50000x128x256.Reduces [0] S128x256 := by decide

theorem maxT_at (g : Fin 128) (c : Fin 256) : maxT n s (ix2 g c) = seg max ⊥ (idR s) (Cert.Proof.KernelIdeal.colOf n c) g.val 50000 := by
  unfold maxT seg
  rw [← fold_fin max (⊥ : EReal) 50000]
  refine (Host.reduce_eq_fold_single (α := EReal) max (masked n s) _ _ red3 _ (ix2 g c)).trans ?_
  rw [show (constant (F := Ideal) S_ .f32 0xFF800000#32) (Shape.Idx.first h_S_) = (⊥ : EReal) from bot_bits]
  refine congrArg (fun f => Finset.fold max (⊥ : EReal) f Finset.univ) (funext fun (R : Fin 50000) => ?_)
  refine Eq.trans (congrArg (masked n s) (show red3.lift (ix2 g c) R = ix3 R g c from funext fun b => Fin.ext (by match b with | 0 => rfl | 1 => rfl | 2 => rfl))) ?_
  rw [masked_at, idR_fin, colOf_fin]

/-! ## The means -/

theorem meanT_at (g : Fin 128) (c : Fin 256) :
    meanT n s (ix2 g c) = Ideal.div (seg addE 0 (idR s) (Cert.Proof.KernelIdeal.colOf n c) g.val 50000) (max (seg addE 0 (idR s) (fun _ => 1) g.val 50000) 1) := by
  unfold meanT
  rw [ValueIdx.hostDivf_apply, scat_mat]
  refine congrArg (Ideal.div _) ?_
  refine (bcast_at _ _ _ (ix2 g c) (ix2 g 0) (by intro r; match r with | 0 => rfl | 1 => rfl)).trans ?_
  refine (bcast_at _ _ _ (ix2 g 0) (ix1 g) (by intro r; match r with | 0 => rfl)).trans ?_
  exact congrArg₂ (max : EReal → EReal → EReal) (scat_vec s g) Idealize.ShloMosaic.Ideal.ofBits_one_f32

/-! ## The whole -/

theorem row_at (v : FVec Ideal S512 .f32) (g : Fin 128) (k : Fin 512) :
    broadcastInDim S128x512 ![0, 1] bcast_S1x512_S128x512_0_1 (broadcastInDim S1x512 ![1] bcast_S512_S1x512_1 v) (ix2 g k) = v (ix1 k) :=
  (bcast_at _ _ _ (ix2 g k) (ix2 0 k) (by intro r; match r with | 0 => rfl | 1 => rfl)).trans
    (bcast_at _ _ _ (ix2 0 k) (ix1 k) (by intro r; match r with | 0 => rfl))

theorem refT_at (g : Fin 128) (k : Fin 512) :
    refT n s a b (ix2 g k) = (concatenate S128x512 1 [⟨S128x256, maxT n s⟩, ⟨S128x256, meanT n s⟩] concatenates_S128x256_S128x256_S128x512_d1 (ix2 g k) : EReal)
      * a (ix1 k) + b (ix1 k) := by
  unfold refT
  rw [ValueIdx.addf_apply, ValueIdx.mulf_apply, row_at, row_at]

theorem refT_max (g : Fin 128) (c : Fin 256) (k : Fin 512) (hk : k.val = c.val) :
    refT n s a b (ix2 g k) = (seg max ⊥ (idR s) (Cert.Proof.KernelIdeal.colOf n c) g.val 50000 : EReal) * a (ix1 k) + b (ix1 k) := by
  rw [refT_at, ← maxT_at]
  exact congrArg (fun e : EReal => e * a (ix1 k) + b (ix1 k))
    (concatenate_pair_apply_left (t := S128x512) (s₁ := S128x256) (s₂ := S128x256) 1 (maxT n s) (meanT n s) _ _ rfl (ix2 g c)
      (by intro b; match b with | 0 => rfl | 1 => exact hk.symm))

theorem refT_mean (g : Fin 128) (c : Fin 256) (k : Fin 512) (hk : k.val = 256 + c.val) :
    refT n s a b (ix2 g k) = Ideal.div (seg addE 0 (idR s) (Cert.Proof.KernelIdeal.colOf n c) g.val 50000) (max (seg addE 0 (idR s) (fun _ => 1) g.val 50000) 1)
      * a (ix1 k) + b (ix1 k) := by
  rw [refT_at, ← meanT_at]
  exact congrArg (fun e : EReal => e * a (ix1 k) + b (ix1 k))
    (concatenate_pair_apply_right (t := S128x512) (s₁ := S128x256) (s₂ := S128x256) 1 (maxT n s) (meanT n s) _ _ rfl rfl (ix2 g c)
      (by intro b hb; match b with | 0 => rfl | 1 => exact absurd rfl hb) ((Nat.add_comm _ _).trans hk.symm))

end Cert.Proof.Ref

end
-- ==== Proof.Ideal.Value.lean ====
/-
  The kernel's result is the reference's, over the extended reals.
-/
module

public import proofs.«01_k».proof.Proof.Ideal.Frames
public import proofs.«01_k».proof.Proof.Ideal.Side
public import proofs.«01_k».proof.Proof.Ideal.Ref

@[expose] public section

noncomputable section

namespace Cert.Proof.KernelIdeal

open Cert.KernelIdeal Cert.KernelIdeal.Gen
open Idealize.ShloMosaic hiding ix1 ix2 ix3
open Idealize.SL.Sem
open Idealize.ShloMosaic.ValueIdx (ix1 ix2 ix3)

theorem seg_congr (op : EReal → EReal → EReal) (e : EReal) (I I' : ℕ → BitVec 32) (X : ℕ → EReal) (g n : ℕ) (h : ∀ R, R < n → I R = I' R) :
    seg op e I X g n = seg op e I' X g n :=
  foldN_congr op e _ _ n fun R hR => by rw [h R hR]

variable (m : (ℓ : Loc nD τ sig) → Buf (Elt Ideal) ℓ)

theorem pre_seg (h : Cert.Pre_KernelIdeal m) (d : Dev nD) : OkSeg (sd m d) where
  lt := pre_ok m h d
  up R R' hR hR' := by
    have e : R' = R + (R' - R) := by omega
    rw [e]
    exact up_of _ _ _ _ (sd m d) (sd_id m d) (h d).1 (h d).2 R (R' - R) (by omega)

theorem id_ref (d : Dev nD) (R : ℕ) (hR : R < 50000) : idOf (sd m d) R = Cert.Proof.Ref.idR (m ((SparseCore.T d).loc main_arg1)) R :=
  (sd_id m d R hR).trans (Cert.Proof.Ref.idR_fin (m ((SparseCore.T d).loc main_arg1)) ⟨R, hR⟩).symm

theorem gain_at (d : Dev nD) (k : Fin 512) : (ent m d).g (ix2 0 k) = m ((SparseCore.T d).loc main_arg2) (ix1 k) := by
  rw [ent_g]; exact ValueIdx.shapeCast_a_1a_apply _ _ _ _
theorem bias_at (d : Dev nD) (k : Fin 512) : (ent m d).b (ix2 0 k) = m ((SparseCore.T d).loc main_arg3) (ix1 k) := by
  rw [ent_b]; exact ValueIdx.shapeCast_a_1a_apply _ _ _ _

theorem value (h : Cert.Pre_KernelIdeal m) (d : Dev nD) :
    comb (ent m d) = Cert.Proof.Ref.refT (m ((SparseCore.T d).loc main_arg0)) (m ((SparseCore.T d).loc main_arg1)) (m ((SparseCore.T d).loc main_arg2))
      (m ((SparseCore.T d).loc main_arg3)) := by
  have hs := pre_seg m h d
  funext j
  obtain ⟨g, k, rfl⟩ : ∃ (g : Fin 128) (k : Fin 512), j = ix2 g k := ⟨j 0, j 1, ValueIdx.eq_ix2 j⟩
  by_cases hk : k.val < 256
  · rw [Cert.Proof.Ref.refT_max _ _ _ _ g ⟨k.val, hk⟩ k rfl, ← seg_congr max ⊥ _ _ _ _ _ (id_ref m d), ← gain_at m d, ← bias_at m d,
      ← tiles_max (m ((SparseCore.T d).loc main_arg0)) (sd m d) hs g ⟨k.val, hk⟩]
    exact comb_max (ent m d) g ⟨k.val, hk⟩
  · have hc : k.val - 256 < 256 := by have := k.isLt; omega
    have e : k = ⟨256 + (⟨k.val - 256, hc⟩ : Fin 256).val, by have := k.isLt; show 256 + (k.val - 256) < 512; omega⟩ := Fin.ext (by show k.val = 256 + (k.val - 256); omega)
    rw [Cert.Proof.Ref.refT_mean _ _ _ _ g ⟨k.val - 256, hc⟩ k (by show k.val = 256 + (k.val - 256); omega), ← seg_congr addE 0 _ _ _ _ _ (id_ref m d),
      ← seg_congr addE 0 _ _ _ _ _ (id_ref m d), ← gain_at m d, ← bias_at m d,
      ← tiles_sum (m ((SparseCore.T d).loc main_arg0)) (sd m d) hs g ⟨k.val - 256, hc⟩, ← tiles_cnt (m ((SparseCore.T d).loc main_arg0)) (sd m d) hs g 0]
    have q := comb_mean (ent m d) g ⟨k.val - 256, hc⟩
    rw [← e] at q
    exact q

theorem algebraic : Cert.algebraic_KernelIdeal_ReferenceIdeal := fun m g m' g' h hm =>
  ⟨fun c => comb (ent m c),
    (θ_run _ _ _).mono (fun _ q c => q.1 c) (run_main m g (pre_ok m h)),
    (θ_run _ _ _).mono (fun _ q c => ⟨(q c).1.trans (by
        rw [(hm c).1, (hm c).2.1, (hm c).2.2.1, (hm c).2.2.2]
        exact (value m h c).symm), (q c).2⟩) (Cert.ReferenceIdeal.Value.run m' g')⟩

end Cert.Proof.KernelIdeal

end
-- ==== Proof.lean ====
/-
  The certificate: the frames of the kernel, of its ideal twin and of the reference, and that the ideal kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_sorted_graphs
public import proofs.«01_k».proof.Proof.Bits.Frames
public import proofs.«01_k».proof.Proof.Ideal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments, and has no counter that could be other than zero. -/
theorem reference_frame : Cert.quiescent_ReferenceIdeal := fun m g _ =>
  (θ_run _ _ _).mono (fun r q => ⟨fun c => (q c).2, sem_eq_zero_of_no_sems rfl r.2⟩) (Cert.ReferenceIdeal.Value.run m g)

/-- Everything claimed. -/
theorem claim : Cert.Claim := ⟨Cert.Kernel.Gen.facts, Cert.KernelIdeal.Gen.facts, Cert.ReferenceIdeal.Gen.facts, Cert.Pre_sorted_graphs.Gen.facts,
  Cert.Proof.Kernel.frame, Cert.Proof.KernelIdeal.frame, reference_frame, fun m g _ => reference_frame m g trivial, trivial, Cert.Proof.KernelIdeal.algebraic⟩

end Cert.Proof

end
